-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_two_experts_KernelIdeal [hPre_finite_two_experts_KernelIdeal : Cert.Pre_finite_two_experts_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_two_experts_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_two_experts_ReferenceIdeal [hPre_finite_two_experts_ReferenceIdeal : Cert.Pre_finite_two_experts_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_two_experts_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_two_experts_KernelIdeal [hKernelIdeal : Cert.KernelIdeal.Facts] [hPre_finite_two_experts_KernelIdeal : Cert.Pre_finite_two_experts_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_two_experts_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_two_experts_ReferenceIdeal [hReferenceIdeal : Cert.ReferenceIdeal.Facts] [hPre_finite_two_experts_ReferenceIdeal : Cert.Pre_finite_two_experts_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_two_experts_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_two_experts_KernelIdeal [hKernelIdeal : Cert.KernelIdeal.Facts] [hReferenceIdeal : Cert.ReferenceIdeal.Facts] [hPre_finite_two_experts_KernelIdeal : Cert.Pre_finite_two_experts_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_two_experts_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![2, 256, 512]⟩ ⟨3, ![8, 256, 512]⟩ 0 4 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v34) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_two_experts_KernelIdeal : Cert.Pre_finite_two_experts_KernelIdeal.Facts) (hPre_finite_two_experts_ReferenceIdeal : Cert.Pre_finite_two_experts_ReferenceIdeal.Facts),
    quiescent_Kernel (hKernel := hKernel)
    ∧ quiescent_KernelIdeal (hKernelIdeal := hKernelIdeal)
    ∧ quiescent_KernelIdeal_pre_finite_two_experts_KernelIdeal (hKernelIdeal := hKernelIdeal) (hPre_finite_two_experts_KernelIdeal := hPre_finite_two_experts_KernelIdeal)
    ∧ quiescent_ReferenceIdeal (hReferenceIdeal := hReferenceIdeal)
    ∧ quiescent_ReferenceIdeal_pre_finite_two_experts_ReferenceIdeal (hReferenceIdeal := hReferenceIdeal) (hPre_finite_two_experts_ReferenceIdeal := hPre_finite_two_experts_ReferenceIdeal)
    ∧ preserves_Kernel_KernelIdeal
    ∧ algebraic_KernelIdeal_ReferenceIdeal_pre_finite_two_experts_KernelIdeal (hKernelIdeal := hKernelIdeal) (hReferenceIdeal := hReferenceIdeal) (hPre_finite_two_experts_KernelIdeal := hPre_finite_two_experts_KernelIdeal)
-- ==== Pre_finite_two_experts_KernelIdeal.lean ====
abbrev S512x256 : Shape := ⟨2, ![512, 256]⟩
abbrev S256x8 : Shape := ⟨2, ![256, 8]⟩
abbrev S512x2 : Shape := ⟨2, ![512, 2]⟩
abbrev S2x256x512 : Shape := ⟨3, ![2, 256, 512]⟩
abbrev S512x1 : Shape := ⟨2, ![512, 1]⟩
abbrev S512 : Shape := ⟨1, ![512]⟩
abbrev S_ : Shape := ⟨0, ![]⟩

class Facts : Prop where
  slices_S512x2_S512x1_0_0 : S512x2.Slices ![0, 0] S512x1
  shapeCasts_S512x1_S512 : S512x1.ShapeCasts S512
  slices_S512x2_S512x1_0_1 : S512x2.Slices ![0, 1] S512x1
  bcast_S_S512 : S_.BroadcastsInDim S512 (![] : Fin 0 → Fin S512.rank)
  bcast_S_S512x256 : S_.BroadcastsInDim S512x256 (![] : Fin 0 → Fin S512x256.rank)
  reducesTo_S512x256_S512_d1 : S512x256.ReducesTo [1] S512
  h_S_ : 0 < S_.numel
  bcast_S_S256x8 : S_.BroadcastsInDim S256x8 (![] : Fin 0 → Fin S256x8.rank)
  reducesTo_S256x8_S_d0_1 : S256x8.ReducesTo [0, 1] S_

variable [Facts]

def fn_part1 {F : FTy → Type} [FloatOps F] (main_arg1 : FVec F S256x8 .bf16) (main_v16 : IVec S512 1) (main_v17 : FVec F S512x256 .bf16) (main_v18 : FVec F S512x256 .bf16) : IVec S512 1 :=
  let main_v19 : IVec S512x256 1 := cmpf .olt main_v17 main_v18
  let main_c_3 : IVec S_ 1 := constantI S_ 1 1#1
  let main_v20 : IVec S512 1 := (fun x v => Host.reduce IntOp.andi x v reducesTo_S512x256_S512_d1 h_S_) main_v19 main_c_3
  let main_v21 : IVec S512 1 := andi main_v16 main_v20
  let main_v22 : FVec F S256x8 .bf16 := Host.absf main_arg1
  let main_cst_4 : FVec F S_ .bf16 := constant S_ .bf16 0x7F80#16
  let main_v23 : FVec F S256x8 .bf16 := broadcastInDim S256x8 ![] bcast_S_S256x8 main_cst_4
  let main_v24 : IVec S256x8 1 := cmpf .olt main_v22 main_v23
  let main_c_5 : IVec S_ 1 := constantI S_ 1 1#1
  let main_v25 : IVec S_ 1 := (fun x v => Host.reduce IntOp.andi x v reducesTo_S256x8_S_d0_1 h_S_) main_v24 main_c_5
  let main_v26 : IVec S512 1 := broadcastInDim S512 ![] bcast_S_S512 main_v25
  let main_v27 : IVec S512 1 := andi main_v21 main_v26
  main_v27

def fn {F : FTy → Type} [FloatOps F] (main_arg0 : FVec F S512x256 .bf16) (main_arg1 : FVec F S256x8 .bf16) (main_arg2 : IVec S512x2 32) (main_arg3 : FVec F S2x256x512 .f32) : IVec S512 1 :=
  let main_v0 : IVec S512x1 32 := (extractStridedSlice S512x1 ![0, 0] · slices_S512x2_S512x1_0_0) main_arg2
  let main_v1 : IVec S512 32 := shapeCast S512 main_v0 shapeCasts_S512x1_S512
  let main_v2 : IVec S512x1 32 := (extractStridedSlice S512x1 ![0, 1] · slices_S512x2_S512x1_0_1) main_arg2
  let main_v3 : IVec S512 32 := shapeCast S512 main_v2 shapeCasts_S512x1_S512
  let main_c : IVec S_ 32 := constantI S_ 32 0#32
  let main_v4 : IVec S512 32 := broadcastInDim S512 ![] bcast_S_S512 main_c
  let main_v5 : IVec S512 1 := cmpi .sge main_v1 main_v4
  let main_c_0 : IVec S_ 32 := constantI S_ 32 8#32
  let main_v6 : IVec S512 32 := broadcastInDim S512 ![] bcast_S_S512 main_c_0
  let main_v7 : IVec S512 1 := cmpi .slt main_v1 main_v6
  let main_v8 : IVec S512 1 := andi main_v5 main_v7
  let main_c_1 : IVec S_ 32 := constantI S_ 32 0#32
  let main_v9 : IVec S512 32 := broadcastInDim S512 ![] bcast_S_S512 main_c_1
  let main_v10 : IVec S512 1 := cmpi .sge main_v3 main_v9
  let main_v11 : IVec S512 1 := andi main_v8 main_v10
  let main_c_2 : IVec S_ 32 := constantI S_ 32 8#32
  let main_v12 : IVec S512 32 := broadcastInDim S512 ![] bcast_S_S512 main_c_2
  let main_v13 : IVec S512 1 := cmpi .slt main_v3 main_v12
  let main_v14 : IVec S512 1 := andi main_v11 main_v13
  let main_v15 : IVec S512 1 := cmpi .ne main_v1 main_v3
  let main_v16 : IVec S512 1 := andi main_v14 main_v15
  let main_v17 : FVec F S512x256 .bf16 := Host.absf main_arg0
  let main_cst : FVec F S_ .bf16 := constant S_ .bf16 0x7F80#16
  let main_v18 : FVec F S512x256 .bf16 := broadcastInDim S512x256 ![] bcast_S_S512x256 main_cst
  fn_part1 (F := F) main_arg1 main_v16 main_v17 main_v18
-- ==== Pre_finite_two_experts_ReferenceIdeal.lean ====
abbrev S512x256 : Shape := ⟨2, ![512, 256]⟩
abbrev S256x8 : Shape := ⟨2, ![256, 8]⟩
abbrev S512x2 : Shape := ⟨2, ![512, 2]⟩
abbrev S8x256x512 : Shape := ⟨3, ![8, 256, 512]⟩
abbrev S512x1 : Shape := ⟨2, ![512, 1]⟩
abbrev S512 : Shape := ⟨1, ![512]⟩
abbrev S_ : Shape := ⟨0, ![]⟩

class Facts : Prop where
  slices_S512x2_S512x1_0_0 : S512x2.Slices ![0, 0] S512x1
  shapeCasts_S512x1_S512 : S512x1.ShapeCasts S512
  slices_S512x2_S512x1_0_1 : S512x2.Slices ![0, 1] S512x1
  bcast_S_S512 : S_.BroadcastsInDim S512 (![] : Fin 0 → Fin S512.rank)
  bcast_S_S512x256 : S_.BroadcastsInDim S512x256 (![] : Fin 0 → Fin S512x256.rank)
  reducesTo_S512x256_S512_d1 : S512x256.ReducesTo [1] S512
  h_S_ : 0 < S_.numel
  bcast_S_S256x8 : S_.BroadcastsInDim S256x8 (![] : Fin 0 → Fin S256x8.rank)
  reducesTo_S256x8_S_d0_1 : S256x8.ReducesTo [0, 1] S_

variable [Facts]

def fn_part1 {F : FTy → Type} [FloatOps F] (main_arg1 : FVec F S256x8 .bf16) (main_v16 : IVec S512 1) (main_v17 : FVec F S512x256 .bf16) (main_v18 : FVec F S512x256 .bf16) : IVec S512 1 :=
  let main_v19 : IVec S512x256 1 := cmpf .olt main_v17 main_v18
  let main_c_3 : IVec S_ 1 := constantI S_ 1 1#1
  let main_v20 : IVec S512 1 := (fun x v => Host.reduce IntOp.andi x v reducesTo_S512x256_S512_d1 h_S_) main_v19 main_c_3
  let main_v21 : IVec S512 1 := andi main_v16 main_v20
  let main_v22 : FVec F S256x8 .bf16 := Host.absf main_arg1
  let main_cst_4 : FVec F S_ .bf16 := constant S_ .bf16 0x7F80#16
  let main_v23 : FVec F S256x8 .bf16 := broadcastInDim S256x8 ![] bcast_S_S256x8 main_cst_4
  let main_v24 : IVec S256x8 1 := cmpf .olt main_v22 main_v23
  let main_c_5 : IVec S_ 1 := constantI S_ 1 1#1
  let main_v25 : IVec S_ 1 := (fun x v => Host.reduce IntOp.andi x v reducesTo_S256x8_S_d0_1 h_S_) main_v24 main_c_5
  let main_v26 : IVec S512 1 := broadcastInDim S512 ![] bcast_S_S512 main_v25
  let main_v27 : IVec S512 1 := andi main_v21 main_v26
  main_v27

def fn {F : FTy → Type} [FloatOps F] (main_arg0 : FVec F S512x256 .bf16) (main_arg1 : FVec F S256x8 .bf16) (main_arg2 : IVec S512x2 32) (main_arg3 : FVec F S8x256x512 .f32) : IVec S512 1 :=
  let main_v0 : IVec S512x1 32 := (extractStridedSlice S512x1 ![0, 0] · slices_S512x2_S512x1_0_0) main_arg2
  let main_v1 : IVec S512 32 := shapeCast S512 main_v0 shapeCasts_S512x1_S512
  let main_v2 : IVec S512x1 32 := (extractStridedSlice S512x1 ![0, 1] · slices_S512x2_S512x1_0_1) main_arg2
  let main_v3 : IVec S512 32 := shapeCast S512 main_v2 shapeCasts_S512x1_S512
  let main_c : IVec S_ 32 := constantI S_ 32 0#32
  let main_v4 : IVec S512 32 := broadcastInDim S512 ![] bcast_S_S512 main_c
  let main_v5 : IVec S512 1 := cmpi .sge main_v1 main_v4
  let main_c_0 : IVec S_ 32 := constantI S_ 32 8#32
  let main_v6 : IVec S512 32 := broadcastInDim S512 ![] bcast_S_S512 main_c_0
  let main_v7 : IVec S512 1 := cmpi .slt main_v1 main_v6
  let main_v8 : IVec S512 1 := andi main_v5 main_v7
  let main_c_1 : IVec S_ 32 := constantI S_ 32 0#32
  let main_v9 : IVec S512 32 := broadcastInDim S512 ![] bcast_S_S512 main_c_1
  let main_v10 : IVec S512 1 := cmpi .sge main_v3 main_v9
  let main_v11 : IVec S512 1 := andi main_v8 main_v10
  let main_c_2 : IVec S_ 32 := constantI S_ 32 8#32
  let main_v12 : IVec S512 32 := broadcastInDim S512 ![] bcast_S_S512 main_c_2
  let main_v13 : IVec S512 1 := cmpi .slt main_v3 main_v12
  let main_v14 : IVec S512 1 := andi main_v11 main_v13
  let main_v15 : IVec S512 1 := cmpi .ne main_v1 main_v3
  let main_v16 : IVec S512 1 := andi main_v14 main_v15
  let main_v17 : FVec F S512x256 .bf16 := Host.absf main_arg0
  let main_cst : FVec F S_ .bf16 := constant S_ .bf16 0x7F80#16
  let main_v18 : FVec F S512x256 .bf16 := broadcastInDim S512x256 ![] bcast_S_S512x256 main_cst
  fn_part1 (F := F) main_arg1 main_v16 main_v17 main_v18
-- ==== Kernel.lean ====
abbrev S512x256 : Shape := ⟨2, ![512, 256]⟩
abbrev S256x8 : Shape := ⟨2, ![256, 8]⟩
abbrev S512x2 : Shape := ⟨2, ![512, 2]⟩
abbrev S2x256x512 : Shape := ⟨3, ![2, 256, 512]⟩
abbrev S512x512 : Shape := ⟨2, ![512, 512]⟩
abbrev S2x512x512 : Shape := ⟨3, ![2, 512, 512]⟩
abbrev S_ : Shape := ⟨0, ![]⟩
abbrev S2x8 : Shape := ⟨2, ![2, 8]⟩
abbrev S512x8 : Shape := ⟨2, ![512, 8]⟩
abbrev S512 : Shape := ⟨1, ![512]⟩
abbrev S512x1 : Shape := ⟨2, ![512, 1]⟩
abbrev S1x256x512 : Shape := ⟨3, ![1, 256, 512]⟩
abbrev S256x512 : Shape := ⟨2, ![256, 512]⟩
abbrev S64x256 : Shape := ⟨2, ![64, 256]⟩
abbrev S64x512 : Shape := ⟨2, ![64, 512]⟩
abbrev S1x64x512 : Shape := ⟨3, ![1, 64, 512]⟩
abbrev S1x1 : Shape := ⟨2, ![1, 1]⟩

abbrev nBuf : Space → Nat
  | .hbm => 5
  | .vmem => 7
  | .smem => 0
  | _ => 0

abbrev bufTy : (tb : Table) → Fin (tcTables nBuf tb) → BufTy
  | .hbm, ⟨0, _⟩ => ⟨S512x256, .bf16⟩
  | .hbm, ⟨1, _⟩ => ⟨S256x8, .bf16⟩
  | .hbm, ⟨2, _⟩ => ⟨S512x2, .i32⟩
  | .hbm, ⟨3, _⟩ => ⟨S2x256x512, .f32⟩
  | .hbm, ⟨4, _⟩ => ⟨S512x512, .bf16⟩
  | .local _ .vmem, ⟨0, _⟩ => ⟨S512x256, .bf16⟩
  | .local _ .vmem, ⟨1, _⟩ => ⟨S256x8, .bf16⟩
  | .local _ .vmem, ⟨2, _⟩ => ⟨S512x2, .i32⟩
  | .local _ .vmem, ⟨3, _⟩ => ⟨S512x512, .bf16⟩
  | .local _ .vmem, ⟨4, _⟩ => ⟨S2x512x512, .bf16⟩
  | .local _ .vmem, ⟨5, _⟩ => ⟨S2x512x512, .bf16⟩
  | .local _ .vmem, ⟨6, _⟩ => ⟨S2x256x512, .f32⟩
  | _, _ => ⟨S512x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  (ofTc nBuf bufTy 1 37 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_2 : BitVec 32 := 1#32
  let v6 : BitVec 32 := Scalar.muli v3 c1_i32_2
  let v7 : BitVec 32 := Scalar.addi c0_i32 v6
  v7.toNat
def k0_dev2 (d0 : Dev nD) : Nat :=
  let c0_i32_5 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_4 : BitVec 32 := 1#32
  let v8 : BitVec 32 := Scalar.muli v4 c1_i32_4
  let v9 : BitVec 32 := Scalar.addi c0_i32_5 v8
  v9.toNat
def k0_dev3 (d0 : Dev nD) : Nat :=
  let c0_i32_42 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_41 : BitVec 32 := 1#32
  let v101 : BitVec 32 := Scalar.muli v3 c1_i32_41
  let v102 : BitVec 32 := Scalar.addi c0_i32_42 v101
  v102.toNat
def k0_dev4 (d0 : Dev nD) : Nat :=
  let c0_i32_58 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_57 : BitVec 32 := 1#32
  let v120 : BitVec 32 := Scalar.muli v4 c1_i32_57
  let v121 : BitVec 32 := Scalar.addi c0_i32_58 v120
  v121.toNat
def k0_dev5 (d0 : Dev nD) : Nat :=
  let c0_i32_73 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_72 : BitVec 32 := 1#32
  let v139 : BitVec 32 := Scalar.muli v3 c1_i32_72
  let v140 : BitVec 32 := Scalar.addi c0_i32_73 v139
  v140.toNat
def k0_dev6 (d0 : Dev nD) : Nat :=
  let c0_i32_87 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_86 : BitVec 32 := 1#32
  let v158 : BitVec 32 := Scalar.muli v4 c1_i32_86
  let v159 : BitVec 32 := Scalar.addi c0_i32_87 v158
  v159.toNat
def k0_dev7 (d0 : Dev nD) : Nat :=
  let c0_i32_102 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_101 : BitVec 32 := 1#32
  let v177 : BitVec 32 := Scalar.muli v3 c1_i32_101
  let v178 : BitVec 32 := Scalar.addi c0_i32_102 v177
  v178.toNat
def k0_dev8 (d0 : Dev nD) : Nat :=
  let c0_i32_116 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_115 : BitVec 32 := 1#32
  let v196 : BitVec 32 := Scalar.muli v4 c1_i32_115
  let v197 : BitVec 32 := Scalar.addi c0_i32_116 v196
  v197.toNat
def k0_dev9 (d0 : Dev nD) : Nat :=
  let c0_i32_131 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_130 : BitVec 32 := 1#32
  let v215 : BitVec 32 := Scalar.muli v3 c1_i32_130
  let v216 : BitVec 32 := Scalar.addi c0_i32_131 v215
  v216.toNat
def k0_dev10 (d0 : Dev nD) : Nat :=
  let c0_i32_145 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_144 : BitVec 32 := 1#32
  let v234 : BitVec 32 := Scalar.muli v4 c1_i32_144
  let v235 : BitVec 32 := Scalar.addi c0_i32_145 v234
  v235.toNat
def k0_dev11 (d0 : Dev nD) : Nat :=
  let c0_i32_185 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_184 : BitVec 32 := 1#32
  let v266 : BitVec 32 := Scalar.muli v4 c1_i32_184
  let v267 : BitVec 32 := Scalar.addi c0_i32_185 v266
  v267.toNat
def k0_dev12 (d0 : Dev nD) : Nat :=
  let c0_i32_226 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_225 : BitVec 32 := 1#32
  let v298 : BitVec 32 := Scalar.muli v3 c1_i32_225
  let v299 : BitVec 32 := Scalar.addi c0_i32_226 v298
  v299.toNat
def k0_dev13 (d0 : Dev nD) : Nat :=
  let c0_i32_267 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_266 : BitVec 32 := 1#32
  let v330 : BitVec 32 := Scalar.muli v4 c1_i32_266
  let v331 : BitVec 32 := Scalar.addi c0_i32_267 v330
  v331.toNat
def k0_dev14 (d0 : Dev nD) : Nat :=
  let c0_i32_308 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_307 : BitVec 32 := 1#32
  let v362 : BitVec 32 := Scalar.muli v3 c1_i32_307
  let v363 : BitVec 32 := Scalar.addi c0_i32_308 v362
  v363.toNat
def k0_dev15 (d0 : Dev nD) : Nat :=
  let c0_i32_349 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_348 : BitVec 32 := 1#32
  let v394 : BitVec 32 := Scalar.muli v4 c1_i32_348
  let v395 : BitVec 32 := Scalar.addi c0_i32_349 v394
  v395.toNat
def k0_dev16 (d0 : Dev nD) : Nat :=
  let c0_i32_390 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_389 : BitVec 32 := 1#32
  let v426 : BitVec 32 := Scalar.muli v3 c1_i32_389
  let v427 : BitVec 32 := Scalar.addi c0_i32_390 v426
  v427.toNat
def k0_dev17 (d0 : Dev nD) : Nat :=
  let c0_i32_431 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_430 : BitVec 32 := 1#32
  let v458 : BitVec 32 := Scalar.muli v4 c1_i32_430
  let v459 : BitVec 32 := Scalar.addi c0_i32_431 v458
  v459.toNat
def k0_dev18 (d0 : Dev nD) : Nat :=
  let c0_i32_472 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_471 : BitVec 32 := 1#32
  let v490 : BitVec 32 := Scalar.muli v3 c1_i32_471
  let v491 : BitVec 32 := Scalar.addi c0_i32_472 v490
  v491.toNat
abbrev stage0_0 : Fin 1 → Memref sig .tc .vmem S512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x8 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S512x256 : Shape := ⟨2, ![512, 256]⟩
abbrev S256x8 : Shape := ⟨2, ![256, 8]⟩
abbrev S512x2 : Shape := ⟨2, ![512, 2]⟩
abbrev S8x256x512 : Shape := ⟨3, ![8, 256, 512]⟩
abbrev S512x8 : Shape := ⟨2, ![512, 8]⟩
abbrev S_ : Shape := ⟨0, ![]⟩
abbrev S512 : Shape := ⟨1, ![512]⟩
abbrev S512x1 : Shape := ⟨2, ![512, 1]⟩
abbrev S512x2x1 : Shape := ⟨3, ![512, 2, 1]⟩
abbrev S1 : Shape := ⟨1, ![1]⟩
abbrev S1x1x1 : Shape := ⟨3, ![1, 1, 1]⟩
abbrev S512x8x512 : Shape := ⟨3, ![512, 8, 512]⟩
abbrev S512x1x1 : Shape := ⟨3, ![512, 1, 1]⟩
abbrev S512x1x512 : Shape := ⟨3, ![512, 1, 512]⟩
abbrev S512x512 : Shape := ⟨2, ![512, 512]⟩

abbrev nBuf : Space → Nat
  | .hbm => 104
  | .vmem => 0
  | .smem => 0
  | _ => 0

abbrev bufTy : (tb : Table) → Fin (tcTables nBuf tb) → BufTy
  | .hbm, ⟨0, _⟩ => ⟨S512x256, .bf16⟩
  | .hbm, ⟨1, _⟩ => ⟨S256x8, .bf16⟩
  | .hbm, ⟨2, _⟩ => ⟨S512x2, .i32⟩
  | .hbm, ⟨3, _⟩ => ⟨S8x256x512, .f32⟩
  | .hbm, ⟨4, _⟩ => ⟨S512x256, .f32⟩
  | .hbm, ⟨5, _⟩ => ⟨S256x8, .f32⟩
  | .hbm, ⟨6, _⟩ => ⟨S512x8, .f32⟩
  | .hbm, ⟨7, _⟩ => ⟨S_, .f32⟩
  | .hbm, ⟨8, _⟩ => ⟨S512, .f32⟩
  | .hbm, ⟨9, _⟩ => ⟨S512x1, .f32⟩
  | .hbm, ⟨10, _⟩ => ⟨S512x8, .f32⟩
  | .hbm, ⟨11, _⟩ => ⟨S512x8, .f32⟩
  | .hbm, ⟨12, _⟩ => ⟨S512x8, .f32⟩
  | .hbm, ⟨13, _⟩ => ⟨S_, .f32⟩
  | .hbm, ⟨14, _⟩ => ⟨S512, .f32⟩
  | .hbm, ⟨15, _⟩ => ⟨S512x1, .f32⟩
  | .hbm, ⟨16, _⟩ => ⟨S512x8, .f32⟩
  | .hbm, ⟨17, _⟩ => ⟨S512x8, .f32⟩
  | .hbm, ⟨18, _⟩ => ⟨S_, .i32⟩
  | .hbm, ⟨19, _⟩ => ⟨S512x2, .i32⟩
  | .hbm, ⟨20, _⟩ => ⟨S512x2, .i1⟩
  | .hbm, ⟨21, _⟩ => ⟨S_, .i32⟩
  | .hbm, ⟨22, _⟩ => ⟨S512x2, .i32⟩
  | .hbm, ⟨23, _⟩ => ⟨S512x2, .i32⟩
  | .hbm, ⟨24, _⟩ => ⟨S512x2, .i32⟩
  | .hbm, ⟨25, _⟩ => ⟨S512x2x1, .i32⟩
  | .hbm, ⟨26, _⟩ => ⟨S1, .i32⟩
  | .hbm, ⟨27, _⟩ => ⟨S_, .i32⟩
  | .hbm, ⟨28, _⟩ => ⟨S512x2x1, .i32⟩
  | .hbm, ⟨29, _⟩ => ⟨S512x2x1, .i1⟩
  | .hbm, ⟨30, _⟩ => ⟨S1x1x1, .i32⟩
  | .hbm, ⟨31, _⟩ => ⟨S512x2x1, .i32⟩
  | .hbm, ⟨32, _⟩ => ⟨S512x2x1, .i1⟩
  | .hbm, ⟨33, _⟩ => ⟨S512x2x1, .i1⟩
  | .hbm, ⟨34, _⟩ => ⟨S_, .i1⟩
  | .hbm, ⟨35, _⟩ => ⟨S512x2, .i1⟩
  | .hbm, ⟨36, _⟩ => ⟨S512x2, .f32⟩
  | .hbm, ⟨37, _⟩ => ⟨S_, .f32⟩
  | .hbm, ⟨38, _⟩ => ⟨S512x2, .f32⟩
  | .hbm, ⟨39, _⟩ => ⟨S512x2, .f32⟩
  | .hbm, ⟨40, _⟩ => ⟨S512x1, .f32⟩
  | .hbm, ⟨41, _⟩ => ⟨S512x1, .f32⟩
  | .hbm, ⟨42, _⟩ => ⟨S512x1, .f32⟩
  | .hbm, ⟨43, _⟩ => ⟨S512x8x512, .f32⟩
  | .hbm, ⟨44, _⟩ => ⟨S512x1, .i32⟩
  | .hbm, ⟨45, _⟩ => ⟨S512, .i32⟩
  | .hbm, ⟨46, _⟩ => ⟨S512x1x1, .i32⟩
  | .hbm, ⟨47, _⟩ => ⟨S_, .i32⟩
  | .hbm, ⟨48, _⟩ => ⟨S512x1x1, .i32⟩
  | .hbm, ⟨49, _⟩ => ⟨S512x1x1, .i1⟩
  | .hbm, ⟨50, _⟩ => ⟨S_, .i32⟩
  | .hbm, ⟨51, _⟩ => ⟨S512x1x1, .i32⟩
  | .hbm, ⟨52, _⟩ => ⟨S512x1x1, .i32⟩
  | .hbm, ⟨53, _⟩ => ⟨S512x1x1, .i32⟩
  | .hbm, ⟨54, _⟩ => ⟨S1, .i32⟩
  | .hbm, ⟨55, _⟩ => ⟨S_, .i32⟩
  | .hbm, ⟨56, _⟩ => ⟨S512x1x1, .i32⟩
  | .hbm, ⟨57, _⟩ => ⟨S512x1x1, .i1⟩
  | .hbm, ⟨58, _⟩ => ⟨S1x1x1, .i32⟩
  | .hbm, ⟨59, _⟩ => ⟨S512x1x1, .i32⟩
  | .hbm, ⟨60, _⟩ => ⟨S512x1x1, .i1⟩
  | .hbm, ⟨61, _⟩ => ⟨S512x1x1, .i1⟩
  | .hbm, ⟨62, _⟩ => ⟨S_, .i1⟩
  | .hbm, ⟨63, _⟩ => ⟨S512x1, .i1⟩
  | .hbm, ⟨64, _⟩ => ⟨S512x1x512, .f32⟩
  | .hbm, ⟨65, _⟩ => ⟨S512x1x512, .i1⟩
  | .hbm, ⟨66, _⟩ => ⟨S_, .f32⟩
  | .hbm, ⟨67, _⟩ => ⟨S512x1x512, .f32⟩
  | .hbm, ⟨68, _⟩ => ⟨S512x1x512, .f32⟩
  | .hbm, ⟨69, _⟩ => ⟨S512x512, .f32⟩
  | .hbm, ⟨70, _⟩ => ⟨S512x1, .i32⟩
  | .hbm, ⟨71, _⟩ => ⟨S512, .i32⟩
  | .hbm, ⟨72, _⟩ => ⟨S512x1x1, .i32⟩
  | .hbm, ⟨73, _⟩ => ⟨S_, .i32⟩
  | .hbm, ⟨74, _⟩ => ⟨S512x1x1, .i32⟩
  | .hbm, ⟨75, _⟩ => ⟨S512x1x1, .i1⟩
  | .hbm, ⟨76, _⟩ => ⟨S_, .i32⟩
  | .hbm, ⟨77, _⟩ => ⟨S512x1x1, .i32⟩
  | .hbm, ⟨78, _⟩ => ⟨S512x1x1, .i32⟩
  | .hbm, ⟨79, _⟩ => ⟨S512x1x1, .i32⟩
  | .hbm, ⟨80, _⟩ => ⟨S1, .i32⟩
  | .hbm, ⟨81, _⟩ => ⟨S_, .i32⟩
  | .hbm, ⟨82, _⟩ => ⟨S512x1x1, .i32⟩
  | .hbm, ⟨83, _⟩ => ⟨S512x1x1, .i1⟩
  | .hbm, ⟨84, _⟩ => ⟨S1x1x1, .i32⟩
  | .hbm, ⟨85, _⟩ => ⟨S512x1x1, .i32⟩
  | .hbm, ⟨86, _⟩ => ⟨S512x1x1, .i1⟩
  | .hbm, ⟨87, _⟩ => ⟨S512x1x1, .i1⟩
  | .hbm, ⟨88, _⟩ => ⟨S_, .i1⟩
  | .hbm, ⟨89, _⟩ => ⟨S512x1, .i1⟩
  | .hbm, ⟨90, _⟩ => ⟨S512x1x512, .f32⟩
  | .hbm, ⟨91, _⟩ => ⟨S512x1x512, .i1⟩
  | .hbm, ⟨92, _⟩ => ⟨S_, .f32⟩
  | .hbm, ⟨93, _⟩ => ⟨S512x1x512, .f32⟩
  | .hbm, ⟨94, _⟩ => ⟨S512x1x512, .f32⟩
  | .hbm, ⟨95, _⟩ => ⟨S512x512, .f32⟩
  | .hbm, ⟨96, _⟩ => ⟨S512x1, .f32⟩
  | .hbm, ⟨97, _⟩ => ⟨S512x512, .f32⟩
  | .hbm, ⟨98, _⟩ => ⟨S512x512, .f32⟩
  | .hbm, ⟨99, _⟩ => ⟨S512x1, .f32⟩
  | .hbm, ⟨100, _⟩ => ⟨S512x512, .f32⟩
  | .hbm, ⟨101, _⟩ => ⟨S512x512, .f32⟩
  | .hbm, ⟨102, _⟩ => ⟨S512x512, .f32⟩
  | .hbm, ⟨103, _⟩ => ⟨S512x512, .bf16⟩
  | _, _ => ⟨S512x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_c_1 : Ref sig .tc := ⟨.hbm, 26, rfl⟩
abbrev main_call0_c_2 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_3 : Ref sig .tc := ⟨.hbm, 34, rfl⟩
abbrev main_call0_v12 : Ref sig .tc := ⟨.hbm, 35, rfl⟩
abbrev main_call0_v13 : Ref sig .tc := ⟨.hbm, 36, rfl⟩
abbrev main_call0_cst : Ref sig .tc := ⟨.hbm, 37, rfl⟩
abbrev main_call0_v14 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_call1_c : Ref sig .tc := ⟨.hbm, 47, rfl⟩
abbrev main_call1_v0 : Ref sig .tc := ⟨.hbm, 48, rfl⟩
abbrev main_call1_v1 : Ref sig .tc := ⟨.hbm, 49, rfl⟩
abbrev main_call1_c_0 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_call1_c_1 : Ref sig .tc := ⟨.hbm, 54, rfl⟩
abbrev main_call1_c_2 : Ref sig .tc := ⟨.hbm, 55, rfl⟩
abbrev main_call1_v5 : Ref sig .tc := ⟨.hbm, 56, rfl⟩
abbrev main_call1_v6 : Ref sig .tc := ⟨.hbm, 57, rfl⟩
abbrev main_call1_v7 : Ref sig .tc := ⟨.hbm, 58, rfl⟩
abbrev main_call1_v8 : Ref sig .tc := ⟨.hbm, 59, rfl⟩
abbrev main_call1_v9 : Ref sig .tc := ⟨.hbm, 60, rfl⟩
abbrev main_call1_v10 : Ref sig .tc := ⟨.hbm, 61, rfl⟩
abbrev main_call1_c_3 : Ref sig .tc := ⟨.hbm, 62, rfl⟩
abbrev main_call1_v11 : Ref sig .tc := ⟨.hbm, 63, rfl⟩
abbrev main_call1_v12 : Ref sig .tc := ⟨.hbm, 64, rfl⟩
abbrev main_call1_v13 : Ref sig .tc := ⟨.hbm, 65, rfl⟩
abbrev main_call1_cst : Ref sig .tc := ⟨.hbm, 66, rfl⟩
abbrev main_call1_v14 : Ref sig .tc := ⟨.hbm, 67, rfl⟩
abbrev main_v20 : Ref sig .tc := ⟨.hbm, 68, rfl⟩
abbrev main_v21 : Ref sig .tc := ⟨.hbm, 69, rfl⟩
abbrev main_v22 : Ref sig .tc := ⟨.hbm, 70, rfl⟩
abbrev main_v23 : Ref sig .tc := ⟨.hbm, 71, rfl⟩
abbrev main_v24 : Ref sig .tc := ⟨.hbm, 72, rfl⟩
abbrev main_call2_c : Ref sig .tc := ⟨.hbm, 73, rfl⟩
abbrev main_call2_v0 : Ref sig .tc := ⟨.hbm, 74, rfl⟩
abbrev main_call2_v1 : Ref sig .tc := ⟨.hbm, 75, rfl⟩
abbrev main_call2_c_0 : Ref sig .tc := ⟨.hbm, 76, rfl⟩
abbrev main_call2_v2 : Ref sig .tc := ⟨.hbm, 77, rfl⟩
abbrev main_call2_v3 : Ref sig .tc := ⟨.hbm, 78, rfl⟩
abbrev main_call2_v4 : Ref sig .tc := ⟨.hbm, 79, rfl⟩
abbrev main_call2_c_1 : Ref sig .tc := ⟨.hbm, 80, rfl⟩
abbrev main_call2_c_2 : Ref sig .tc := ⟨.hbm, 81, rfl⟩
abbrev main_call2_v5 : Ref sig .tc := ⟨.hbm, 82, rfl⟩
abbrev main_call2_v6 : Ref sig .tc := ⟨.hbm, 83, rfl⟩
abbrev main_call2_v7 : Ref sig .tc := ⟨.hbm, 84, rfl⟩
abbrev main_call2_v8 : Ref sig .tc := ⟨.hbm, 85, rfl⟩
abbrev main_call2_v9 : Ref sig .tc := ⟨.hbm, 86, rfl⟩
abbrev main_call2_v10 : Ref sig .tc := ⟨.hbm, 87, rfl⟩
abbrev main_call2_c_3 : Ref sig .tc := ⟨.hbm, 88, rfl⟩
abbrev main_call2_v11 : Ref sig .tc := ⟨.hbm, 89, rfl⟩
abbrev main_call2_v12 : Ref sig .tc := ⟨.hbm, 90, rfl⟩
abbrev main_call2_v13 : Ref sig .tc := ⟨.hbm, 91, rfl⟩
abbrev main_call2_cst : Ref sig .tc := ⟨.hbm, 92, rfl⟩
abbrev main_call2_v14 : Ref sig .tc := ⟨.hbm, 93, rfl⟩
abbrev main_v25 : Ref sig .tc := ⟨.hbm, 94, rfl⟩
abbrev main_v26 : Ref sig .tc := ⟨.hbm, 95, rfl⟩
abbrev main_v27 : Ref sig .tc := ⟨.hbm, 96, rfl⟩
abbrev main_v28 : Ref sig .tc := ⟨.hbm, 97, rfl⟩
abbrev main_v29 : Ref sig .tc := ⟨.hbm, 98, rfl⟩
abbrev main_v30 : Ref sig .tc := ⟨.hbm, 99, rfl⟩
abbrev main_v31 : Ref sig .tc := ⟨.hbm, 100, rfl⟩
abbrev main_v32 : Ref sig .tc := ⟨.hbm, 101, rfl⟩
abbrev main_v33 : Ref sig .tc := ⟨.hbm, 102, rfl⟩
abbrev main_v34 : Ref sig .tc := ⟨.hbm, 103, rfl⟩

abbrev nD : Nat := 1
abbrev τ : Topo := Topo.v7x

variable {F : FTy → Type} [FloatOps F]
-- ==== Proof.Plan.lean ====
/-
# The kernel body as a plan of sixteen exchanges

The printed body is one straight line of loads, stores, copies and waits. This module names its
repeated pieces once for every row chunk — store a chunk and send it, wait for a chunk and add it — and
states the whole body as a sequence of them (`plan`); `body_eq_plan` says the two are the same program.
The arithmetic between the memory operations is named here too: `rows`, `partialOf`, `plus`, `packed`, `rounded`.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Tactic

@[expose] public section

noncomputable section

namespace Cert.TopTwo

open Cert.KernelIdeal Cert.KernelIdeal.Gen
open Idealize.ShloMosaic Idealize.SL.Sem

variable {F : FTy → Type} [FloatOps F]

/-! ## The buffers the body works on -/

/-- The tokens. -/
abbrev xM : Memref sig .tc .vmem S512x256 .bf16 := Memref.whole cc0_stg0_0
/-- The router's weights. -/
abbrev rwM : Memref sig .tc .vmem S256x8 .bf16 := Memref.whole cc0_stg1_0
/-- The routing. -/
abbrev idxM : Memref sig .tc .vmem S512x2 .i32 := Memref.whole cc0_stg2_0
/-- The result. -/
abbrev outM : Memref sig .tc .vmem S512x512 .bf16 := Memref.whole cc0_stg3_0
/-- The device's experts' weights where they are given. -/
abbrev ewH : Memref sig .tc .hbm S2x256x512 .f32 := Memref.whole main_arg3
/-- The copy of the experts' weights the products read. -/
abbrev ewM : Memref sig .tc .vmem S2x256x512 .f32 := Memref.whole cc0_scratch2
/-- The send buffer, a half per stage. -/
abbrev sendM : Memref sig .tc .vmem S2x512x512 .bf16 := Memref.whole cc0_scratch0
/-- The receive buffer, a half per stage. -/
abbrev recvM : Memref sig .tc .vmem S2x512x512 .bf16 := Memref.whole cc0_scratch1

/-! ## The slots: stage `s`, chunk `k` is the 64 rows from `64 * k` of half `s` -/

/-- Where slot `(s, k)` starts. -/
abbrev off (s : Fin 2) (k : Fin 8) : Fin 3 → Nat := ![s.val, 64 * k.val, 0]
/-- Every slot lies inside the buffer. -/
theorem inb (s : Fin 2) (k : Fin 8) : ∀ a, off s k a + S1x64x512.size a ≤ S2x512x512.size a := by
  revert s k; decide
/-- Slot `(s, k)` as a rectangle of the buffer. -/
abbrev rS (s : Fin 2) (k : Fin 8) : Rect S2x512x512 := Rect.unit (off s k) S1x64x512.size (inb s k)
/-- A slot's rows are whole packed rows. -/
theorem packedS (s : Fin 2) (k : Fin 8) : (rS s k).PackedRows (EltTy.packing .bf16) := by
  revert s k; decide
/-- A slot is whole memory words. -/
theorem wordsS (s : Fin 2) (k : Fin 8) : (rS s k).WholeWords (EltTy.packing .bf16) := by
  revert s k; decide

/-- Slot `(s, k)` of a buffer, as a copy addresses it. -/
abbrev slotM (b : Memref sig .tc .vmem S2x512x512 .bf16) (s : Fin 2) (k : Fin 8) : Memref sig .tc .vmem S64x512 .bf16 :=
  (b.slice (rS s k) (fun _ => rfl)).squeeze S64x512 squeezes_S1x64x512_S64x512

/-- The semaphore index of slot `(s, k)` is inside the array. -/
theorem inbSem (s : Fin 2) (k : Fin 8) : ∀ a, (![s.val, k.val] : Fin 2 → Nat) a + S1x1.size a ≤ S2x8.size a := by
  revert s k; decide
/-- The semaphore that slot `(s, k)`'s copy signals where it leaves from. -/
abbrev sSem (s : Fin 2) (k : Fin 8) : DmaSem sig :=
  ((cc0_scratch4.slice (Rect.unit (s := S2x8) ![s.val, k.val] S1x1.size (inbSem s k)) : DmaSems sig S1x1).squeeze S_ squeezes_S1x1_S_).sem
/-- The semaphore that slot `(s, k)`'s copy signals where it lands. -/
abbrev rSem (s : Fin 2) (k : Fin 8) : DmaSem sig :=
  ((cc0_scratch5.slice (Rect.unit (s := S2x8) ![s.val, k.val] S1x1.size (inbSem s k)) : DmaSems sig S1x1).squeeze S_ squeezes_S1x1_S_).sem
/-- The semaphore of the local copy of the experts' weights. -/
abbrev wSem : DmaSem sig := cc0_scratch3.sem

/-- Chunk `k`'s rows lie inside a 512-row array. -/
theorem inbOut (k : Fin 8) : ∀ a, (![64 * k.val, 0] : Fin 2 → Nat) a + S64x512.size a ≤ S512x512.size a := by
  revert k; decide
/-- Chunk `k`'s rows of the result. -/
abbrev rOut (k : Fin 8) : Rect S512x512 := Rect.unit ![64 * k.val, 0] S64x512.size (inbOut k)
/-- They are whole packed rows. -/
theorem packedOut (k : Fin 8) : (rOut k).PackedRows (EltTy.packing .bf16) := by
  revert k; decide
/-- Chunk `k`'s rows of the gated tokens can be cut out. -/
theorem slicesRows (k : Fin 8) : S512x256.Slices ![64 * k.val, 0] S64x256 := by
  revert k; decide

/-! ## The arithmetic -/

/-- A device's place on the mesh axis, as the kernel computes it. -/
abbrev place (d : Dev nD) : BitVec 32 := Scalar.remsi (Scalar.divsi (Dev.word d) 1#32) 4#32

/-- Chunk `k`'s rows of the gated tokens. -/
abbrev rows (k : Fin 8) (g : FVec F S512x256 .bf16) : FVec F S64x256 .bf16 :=
  extractStridedSlice S64x256 ![64 * k.val, 0] g (slicesRows k)
/-- Chunk `k` of a device's own contribution: its two experts' products, added. -/
def partialOf (g0 g1 : FVec F S512x256 .bf16) (w0 w1 : FVec F S256x512 .bf16) (k : Fin 8) : FVec F S64x512 .f32 :=
  addf (matmul dot_S64x256_S256x512_S64x512_1_0_0_1_n_n none (rows k g0) w0 (constant S64x512 .f32 0x00000000#32))
    (matmul dot_S64x256_S256x512_S64x512_1_0_0_1_n_n none (rows k g1) w1 (constant S64x512 .f32 0x00000000#32))
/-- A chunk with a received chunk added. -/
def plus (p : FVec F S64x512 .f32) (r : Vec F S1x64x512 .bf16) : FVec F S64x512 .f32 :=
  addf p (extf .f32 (shapeCast S64x512 r shapeCasts_S1x64x512_S64x512) bitsLt_bf16_f32)
/-- A chunk narrowed for sending. -/
def packed (p : FVec F S64x512 .f32) : Vec F S1x64x512 .bf16 :=
  shapeCast S1x64x512 (truncf .bf16 p bitsLt_bf16_f32) shapeCasts_S64x512_S1x64x512
/-- A chunk narrowed for the result. -/
def rounded (p : FVec F S64x512 .f32) : FVec F S64x512 .bf16 := truncf .bf16 p bitsLt_bf16_f32

/-- The gated tokens of a device's expert 0, from the tokens, the router weights and the two routing columns. -/
def gated0 (v : BitVec 32) (x : Vec F S512x256 .bf16) (rw : Vec F S256x8 .bf16) (i0 i1 : Vec F S512x1 .i32) : FVec F S512x256 .bf16 :=
  k0_pay8 v (k0_pay2 x) (k0_pay3 x rw) (k0_pay4 i0) (k0_pay5 i1) (iota .tc S512x8 32 [1] iota_S512x8_d1_w32) (k0_pay6 x rw i0)
/-- The gated tokens of a device's expert 1. -/
def gated1 (v : BitVec 32) (x : Vec F S512x256 .bf16) (rw : Vec F S256x8 .bf16) (i0 i1 : Vec F S512x1 .i32) : FVec F S512x256 .bf16 :=
  k0_pay10 (k0_pay9 v (k0_pay2 x) (k0_pay3 x rw) (k0_pay4 i0) (k0_pay5 i1) (iota .tc S512x8 32 [1] iota_S512x8_d1_w32) (k0_pay6 x rw i0))

/-- Chunk `k` of the contribution of the device at place `v`, from everything it loads. -/
def ownChunk (v : BitVec 32) (x : Vec F S512x256 .bf16) (rw : Vec F S256x8 .bf16) (i0 i1 : Vec F S512x1 .i32)
    (e0 e1 : Vec F S1x256x512 .f32) (k : Fin 8) : FVec F S64x512 .f32 :=
  partialOf (gated0 v x rw i0 i1) (gated1 v x rw i0 i1) (k0_pay11 e0) (k0_pay12 e1) k

/-! ## The pieces of the plan -/

/-- A program of a device. -/
abbrev Body (F : FTy → Type) : Type 1 := Prog (TpuEff nD τ sig (Elt F) Λ₀ .tc) PUnit

/-- Store a chunk in its send slot (the slot is read once before, for nothing). -/
def storeSlot (s : Fin 2) (k : Fin 8) (V : Vec F S1x64x512 .bf16) (K : Body F) : Body F :=
  .op (.load sendM (rS s k).toLoadRect (View.loadsAt_vmem h_S1x64x512)) fun _ =>
  .op (.store sendM (rS s k) V Finset.univ
    (View.stores_vmem h_S1x64x512 ((Memref.isWhole_whole cc0_scratch0).storeExact_slice rfl _ (packedS s k)) (fun _ => rfl)) (.inl rfl)) fun _ => K

/-- Start the copy of a send slot to the same slot of device `n`'s receive buffer. -/
def sendSlot (s : Fin 2) (k : Fin 8) (n : Dev nD) (K : Body F) : Body F :=
  .op (.enqueueDma (slotM sendM s k) (.remote (Dev.tc n) (slotM recvM s k) (.dma (sSem s k))) (.dma (rSem s k))
    (((Memref.isWhole_whole cc0_scratch0).wordExact_slice rfl _ (wordsS s k)).reshape _ _)
    (((Memref.isWhole_whole cc0_scratch1).wordExact_slice rfl _ (wordsS s k)).reshape _ _) ⟨⟨rfl, Or.inl rfl⟩, trivial⟩) fun _ => K

/-- Wait until a slot's copy has left, then until the neighbour's has landed. -/
def waitSlot (s : Fin 2) (k : Fin 8) (K : Body F) : Body F :=
  .op (.waitDma2 (sSem s k) (slotM recvM s k) (slotM sendM s k)
    (((Memref.isWhole_whole cc0_scratch1).wordExact_slice rfl _ (wordsS s k)).reshape _ _)
    (((Memref.isWhole_whole cc0_scratch0).wordExact_slice rfl _ (wordsS s k)).reshape _ _)) fun _ =>
  .op (.waitDma2 (rSem s k) (slotM sendM s k) (slotM recvM s k)
    (((Memref.isWhole_whole cc0_scratch0).wordExact_slice rfl _ (wordsS s k)).reshape _ _)
    (((Memref.isWhole_whole cc0_scratch1).wordExact_slice rfl _ (wordsS s k)).reshape _ _)) fun _ => K

/-- Read a receive slot. -/
def readSlot (s : Fin 2) (k : Fin 8) (K : Vec F S1x64x512 .bf16 → Body F) : Body F :=
  .op (.load recvM (rS s k).toLoadRect (View.loadsAt_vmem h_S1x64x512)) K

/-- The second step of a chunk: take the first neighbour's chunk, add it, send the sum on to device `n`. -/
def relay (k : Fin 8) (n : Dev nD) (p : FVec F S64x512 .f32) (K : FVec F S64x512 .f32 → Body F) : Body F :=
  waitSlot 0 k (readSlot 0 k fun r => storeSlot 1 k (packed (plus p r)) (sendSlot 1 k n (K (plus p r))))

/-- The last step of a chunk: take the second neighbour's sum, add it, write the chunk of the result. -/
def finish (k : Fin 8) (a : FVec F S64x512 .f32) (K : Body F) : Body F :=
  waitSlot 1 k (readSlot 1 k fun r =>
    .op (.load outM (rOut k).toLoadRect (View.loadsAt_vmem h_S64x512)) fun _ =>
    .op (.store outM (rOut k) (rounded (plus a r)) Finset.univ
      (View.stores_vmem h_S64x512 ((Memref.isWhole_whole cc0_stg3_0).storeExact_slice rfl _ (packedOut k)) (fun _ => rfl)) (.inl rfl)) fun _ => K)

/-- The two neighbours, as the kernel addresses them. -/
abbrev n1 (d : Dev nD) : Dev nD := ⟨k0_dev1 d, k0_dev1_lt d⟩
/-- The second neighbour, as the kernel addresses it. -/
abbrev n2 (d : Dev nD) : Dev nD := ⟨k0_dev2 d, k0_dev2_lt d⟩

/-- The relays of all chunks, then the last steps, from the device's own chunks `P`. -/
def exchange (d : Dev nD) (P : Fin 8 → FVec F S64x512 .f32) : Body F :=
  relay 0 (n2 d) (P 0) fun a0 => relay 4 (n1 d) (P 4) fun a4 =>
  relay 1 (n2 d) (P 1) fun a1 => relay 5 (n1 d) (P 5) fun a5 =>
  relay 2 (n2 d) (P 2) fun a2 => relay 6 (n1 d) (P 6) fun a6 =>
  relay 3 (n2 d) (P 3) fun a3 => relay 7 (n1 d) (P 7) fun a7 =>
  finish 0 a0 <| finish 4 a4 <| finish 1 a1 <| finish 5 a5 <|
  finish 2 a2 <| finish 6 a6 <| finish 3 a3 <| finish 7 a7 <| .ret ⟨⟩

/-- The first step of every chunk — store it and send it — the barrier's wait after the first store, then the exchange. -/
def spread (d : Dev nD) (P : Fin 8 → FVec F S64x512 .f32) : Body F :=
  storeSlot 0 0 (packed (P 0)) <|
  .op (.semWait (SemArray.scalar (sig.barrier 0 rfl) : Sems sig S_).sem (2#32 : BitVec 32).toInt) fun _ =>
  sendSlot 0 0 (n1 d) <|
  storeSlot 0 4 (packed (P 4)) <| sendSlot 0 4 (n2 d) <|
  storeSlot 0 1 (packed (P 1)) <| sendSlot 0 1 (n1 d) <|
  storeSlot 0 5 (packed (P 5)) <| sendSlot 0 5 (n2 d) <|
  storeSlot 0 2 (packed (P 2)) <| sendSlot 0 2 (n1 d) <|
  storeSlot 0 6 (packed (P 6)) <| sendSlot 0 6 (n2 d) <|
  storeSlot 0 3 (packed (P 3)) <| sendSlot 0 3 (n1 d) <|
  storeSlot 0 7 (packed (P 7)) <| sendSlot 0 7 (n2 d) <|
  exchange d P

/-- The body: greet both neighbours, start the weights' copy, load the routing, wait for the weights, then `spread`. -/
def plan : Body F :=
  .op .deviceId fun d =>
  .op (.semSignal (n1 d, .tc) (SemArray.scalar (sig.barrier 0 rfl) : Sems sig S_).sem (1#32 : BitVec 32).toInt) fun _ =>
  .op (.semSignal (n2 d, .tc) (SemArray.scalar (sig.barrier 0 rfl) : Sems sig S_).sem (1#32 : BitVec 32).toInt) fun _ =>
  .op (.enqueueDma ewH (.here ewM) (.dma wSem) (Memref.isWhole_whole main_arg3).wordExact (Memref.isWhole_whole cc0_scratch2).wordExact ⟨Or.inl rfl, trivial⟩) fun _ =>
  .op (.load xM (Rect.unit (s := S512x256) ![0, 0] S512x256.size inb_S512x256_S512x256_0_0).toLoadRect (View.loadsAt_vmem h_S512x256)) fun x =>
  .op (.load rwM (Rect.unit (s := S256x8) ![0, 0] S256x8.size inb_S256x8_S256x8_0_0).toLoadRect (View.loadsAt_vmem h_S256x8)) fun rw =>
  .op (.load idxM (Rect.unit (s := S512x2) ![0, 0] S512x1.size inb_S512x2_S512x1_0_0).toLoadRect (View.loadsAt_vmem h_S512x1)) fun i0 =>
  .op (.load idxM (Rect.unit (s := S512x2) ![0, 1] S512x1.size inb_S512x2_S512x1_0_1).toLoadRect (View.loadsAt_vmem h_S512x1)) fun i1 =>
  .op (.waitDma2 wSem ewH ewM (Memref.isWhole_whole main_arg3).wordExact (Memref.isWhole_whole cc0_scratch2).wordExact) fun _ =>
  .op (.load ewM (Rect.unit (s := S2x256x512) ![0, 0, 0] S1x256x512.size inb_S2x256x512_S1x256x512_0_0_0).toLoadRect (View.loadsAt_vmem h_S1x256x512)) fun e0 =>
  .op (.load ewM (Rect.unit (s := S2x256x512) ![1, 0, 0] S1x256x512.size inb_S2x256x512_S1x256x512_1_0_0).toLoadRect (View.loadsAt_vmem h_S1x256x512)) fun e1 =>
  spread d (ownChunk (place d) x rw i0 i1 e0 e1)

set_option maxRecDepth 65536 in
/-- The printed body is the plan. -/
theorem body_eq_plan : bodyAt0 (F := F) t0_0 = plan := by
  sl_kernel_rfl

end Cert.TopTwo

end
-- ==== Proof.Protocol.lean ====
/-
# The protocol of the exchange: cells, schedule, contents, levels

Four devices; device `c`'s two neighbours are `pr c false` and `pr c true`. Every slot `j = (stage, chunk)` is
exchanged with one of them, `peer c j`. A device has one barrier cell (two duties, one per neighbour, each
handing over the receive slots that the barrier's owner will write), one cell for the local copy of its
experts' weights, and a send and a receive cell per slot. What each receive slot will hold is stated once (`inc`).
-/
module

public import proofs.«01_k».proof.Proof.Plan
public import Idealize.ShloMosaic.Lib.Pipeline.Launch
public import Idealize.ShloMosaic.Lib.Pipeline.Kit

@[expose] public section

noncomputable section

namespace Cert.TopTwo

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The bookkeeping of the exchange's rounds; a duty is named by a truth value. -/
abbrev UB : Type := URounds (GSem nD τ sig) Bool
/-- The bookkeeping of the pipeline's rounds and of the exchange's. -/
abbrev UU : Type := UR sig nD τ × UB

local notation "𝕄" => MT nD τ sig Unit (Elt F) ℕ UU ℕ

/-- The pipeline's rounds in the bookkeeping. -/
abbrev EP : Emb (UR sig nD τ) (MT nD τ sig Unit (Elt F) ℕ UU ℕ) := embL
/-- The exchange's rounds in the bookkeeping. -/
abbrev ER : Emb UB (MT nD τ sig Unit (Elt F) ℕ UU ℕ) := embR

variable (m : (ℓ : Loc nD τ sig) → Buf (Elt F) ℓ) (ρ : Dev nD → PrngReg)

/-- The memory at launch: arbitrary contents, every counter zero. -/
def s₀ : MemSt nD τ sig (Elt F) := ⟨m, fun _ => 0, ρ⟩

/-! ## Neighbours and slots -/

/-- A slot: its stage and its chunk. -/
abbrev Slot : Type := Fin 2 × Fin 8

/-- The neighbour a device greets first (`false`) and second (`true`). -/
def pr (c : Dev nD) (b : Bool) : Dev nD := if b then n2 c else n1 c
/-- Each neighbour relation is mutual. -/
theorem pr_pr (c : Dev nD) (b : Bool) : pr (pr c b) b = c := by revert c b; decide
/-- A device's two neighbours differ. -/
theorem pr_ne (c : Dev nD) : pr c false ≠ pr c true := by revert c; decide
/-- Which neighbour a slot is exchanged with: in stage 0 the first for the first four chunks, in stage 1 the other one. -/
def nb (j : Slot) : Bool := xor (decide (4 ≤ j.2.val)) (decide (j.1 = 1))
/-- The neighbour slot `j` is exchanged with. -/
def peer (c : Dev nD) (j : Slot) : Dev nD := pr c (nb j)
/-- A slot's neighbour has this device for its neighbour in the slot. -/
theorem peer_peer (c : Dev nD) (j : Slot) : peer (peer c j) j = c := pr_pr c _
/-- Exchanging along a slot is a permutation of the devices. -/
def swap (b : Bool) : Dev nD ≃ Dev nD := ⟨fun c => pr c b, fun c => pr c b, fun c => pr_pr c b, fun c => pr_pr c b⟩

/-! ## The cells -/

/-- The runtime's barrier semaphore. -/
abbrev barS : Sem sig := (SemArray.scalar (sig.barrier 0 rfl) : Sems sig S_).sem

/-- A device's own semaphores: the weights' copy, then a send and a receive semaphore per slot. -/
abbrev Own : Type := Unit ⊕ (Slot ⊕ Slot)
/-- The semaphore of each of a device's own cells. -/
abbrev osem : Own → SemLoc sig
  | .inl _ => .dma wSem
  | .inr (.inl j) => .dma (sSem j.1 j.2)
  | .inr (.inr j) => .dma (rSem j.1 j.2)
/-- All of a device's cells: the barrier, then its own. -/
abbrev All : Type := Unit ⊕ Own
/-- The semaphore of each of a device's cells. -/
abbrev csem : All → SemLoc sig
  | .inl _ => .reg barS
  | .inr o => osem o
/-- A cell of a device, by its name. -/
abbrev kcell (ck : Dev nD × All) : GSem nD τ sig := ((ck.1 : Thread nD τ), csem ck.2)

/-- The barrier's cell. -/
abbrev iBar : All := .inl ()
/-- The weights' copy's cell. -/
abbrev iW : All := .inr (.inl ())
/-- Slot `j`'s send cell. -/
abbrev iS (j : Slot) : All := .inr (.inr (.inl j))
/-- Slot `j`'s receive cell. -/
abbrev iR (j : Slot) : All := .inr (.inr (.inr j))

/-- Device `c`'s barrier. -/
abbrev barCell (c : Dev nD) : GSem nD τ sig := ((c : Thread nD τ), .reg barS)
/-- Device `c`'s semaphore of the weights' copy. -/
abbrev wCell (c : Dev nD) : GSem nD τ sig := ((c : Thread nD τ), .dma wSem)
/-- Device `c`'s send semaphore of slot `j`. -/
abbrev sendCell (c : Dev nD) (j : Slot) : GSem nD τ sig := ((c : Thread nD τ), .dma (sSem j.1 j.2))
/-- Device `c`'s receive semaphore of slot `j`. -/
abbrev recvCell (c : Dev nD) (j : Slot) : GSem nD τ sig := ((c : Thread nD τ), .dma (rSem j.1 j.2))

/-- What a semaphore is for. -/
inductive Role where
  | bar | weights | send (j : Slot) | recv (j : Slot) | other
deriving DecidableEq

/-- The role of a semaphore, read off its number. -/
def role : SemLoc sig → Role
  | .reg q => if q = barS then .bar else .other
  | .dma q =>
    if q = wSem then .weights
    else if 5 ≤ q.val ∧ q.val < 21 then .send (⟨(q.val - 5) / 8 % 2, Nat.mod_lt _ (by decide)⟩, ⟨(q.val - 5) % 8, Nat.mod_lt _ (by decide)⟩)
    else if 21 ≤ q.val ∧ q.val < 37 then .recv (⟨(q.val - 21) / 8 % 2, Nat.mod_lt _ (by decide)⟩, ⟨(q.val - 21) % 8, Nat.mod_lt _ (by decide)⟩)
    else .other

/-- The barrier's semaphore has the barrier's role. -/
theorem role_bar : role (.reg barS) = .bar := by decide
/-- The weights' semaphore has the weights' role. -/
theorem role_w : role (.dma wSem) = .weights := by decide
/-- A slot's send semaphore has that slot's send role. -/
theorem role_s (j : Slot) : role (.dma (sSem j.1 j.2)) = .send j := by revert j; decide
/-- A slot's receive semaphore has that slot's receive role. -/
theorem role_r (j : Slot) : role (.dma (rSem j.1 j.2)) = .recv j := by revert j; decide

/-- The role of each of a device's cells. -/
def roleOf : All → Role
  | .inl _ => .bar
  | .inr (.inl _) => .weights
  | .inr (.inr (.inl j)) => .send j
  | .inr (.inr (.inr j)) => .recv j
/-- A cell's semaphore has the cell's role. -/
theorem role_csem (k : All) : role (csem k) = roleOf k := by
  rcases k with _ | _ | j | j
  · exact role_bar
  · exact role_w
  · exact role_s j
  · exact role_r j
/-- Different cells have different roles. -/
theorem roleOf_injective : Function.Injective roleOf := by
  rintro (_ | _ | j | j) (_ | _ | j' | j') h <;> first | rfl | (cases h; done) | (cases h; rfl)
/-- Different cells have different semaphores. -/
theorem csem_injective : Function.Injective csem := fun a b h => roleOf_injective (by rw [← role_csem, ← role_csem, h])

/-- The credit of one slot's copy. -/
abbrev N : ℕ := (slotM recvM 0 0).view.dmaCredit
/-- A slot's copy counts for something. -/
theorem N_pos : 0 < N := View.dmaCredit_pos _ (by decide)
/-- Every receive slot counts the same. -/
theorem credit_recv (s : Fin 2) (k : Fin 8) : (slotM recvM s k).view.dmaCredit = N := rfl
/-- Every send slot counts the same. -/
theorem credit_send (s : Fin 2) (k : Fin 8) : (slotM sendM s k).view.dmaCredit = N := by first | rfl | (revert s k; decide)
/-- The credit of the weights' copy. -/
abbrev NW : ℕ := ewM.view.dmaCredit
/-- The weights' copy counts for something. -/
theorem NW_pos : 0 < NW := View.dmaCredit_pos _ (by decide)

/-! ## Contents -/

/-- What the staging buffers hold: the device's tokens, router weights, routing. -/
def xstg (c : Dev nD) : (cc0_stg0_0 : Ref sig .tc).ty.Contents (Elt F) := (win0_0.blk t0_0).view.read (Elt F) (m ((c : Thread nD τ).loc main_arg0))
/-- What the router's staging buffer holds. -/
def rwstg (c : Dev nD) : (cc0_stg1_0 : Ref sig .tc).ty.Contents (Elt F) := (win0_1.blk t0_0).view.read (Elt F) (m ((c : Thread nD τ).loc main_arg1))
/-- What the routing's staging buffer holds. -/
def idxstg (c : Dev nD) : (cc0_stg2_0 : Ref sig .tc).ty.Contents (Elt F) := (win0_2.blk t0_0).view.read (Elt F) (m ((c : Thread nD τ).loc main_arg2))
/-- The device's experts' weights. -/
def ewstg (c : Dev nD) : (cc0_scratch2 : Ref sig .tc).ty.Contents (Elt F) := m ((c : Thread nD τ).loc main_arg3)

/-- All of the tokens. -/
abbrev rX : Rect S512x256 := Rect.unit (s := S512x256) ![0, 0] S512x256.size inb_S512x256_S512x256_0_0
/-- All of the router's weights. -/
abbrev rRW : Rect S256x8 := Rect.unit (s := S256x8) ![0, 0] S256x8.size inb_S256x8_S256x8_0_0
/-- The first routing column. -/
abbrev rI0 : Rect S512x2 := Rect.unit (s := S512x2) ![0, 0] S512x1.size inb_S512x2_S512x1_0_0
/-- The second routing column. -/
abbrev rI1 : Rect S512x2 := Rect.unit (s := S512x2) ![0, 1] S512x1.size inb_S512x2_S512x1_0_1
/-- The first local expert's weights. -/
abbrev rE0 : Rect S2x256x512 := Rect.unit (s := S2x256x512) ![0, 0, 0] S1x256x512.size inb_S2x256x512_S1x256x512_0_0_0
/-- The second local expert's weights. -/
abbrev rE1 : Rect S2x256x512 := Rect.unit (s := S2x256x512) ![1, 0, 0] S1x256x512.size inb_S2x256x512_S1x256x512_1_0_0

/-- Chunk `k` of device `c`'s own contribution. -/
def own (c : Dev nD) (k : Fin 8) : FVec F S64x512 .f32 :=
  ownChunk (place c) (xM.view.readAt (Elt F) rX.toLoadRect (xstg m c)) (rwM.view.readAt (Elt F) rRW.toLoadRect (rwstg m c))
    (idxM.view.readAt (Elt F) rI0.toLoadRect (idxstg m c)) (idxM.view.readAt (Elt F) rI1.toLoadRect (idxstg m c))
    (ewM.view.readAt (Elt F) rE0.toLoadRect (ewstg m c)) (ewM.view.readAt (Elt F) rE1.toLoadRect (ewstg m c)) k
/-- Chunk `k` after the first exchange: the device's own plus its first partner's. -/
def both (c : Dev nD) (k : Fin 8) : FVec F S64x512 .f32 := plus (own m c k) (packed (own m (peer c (0, k)) k))
/-- Chunk `k` of the result: the sum so far plus the second partner's sum. -/
def final (c : Dev nD) (k : Fin 8) : FVec F S64x512 .bf16 := rounded (plus (both m c k) (packed (both m (peer c (1, k)) k)))

/-- What device `c` sends in slot `j`. -/
def snt (c : Dev nD) (j : Slot) : Vec F S1x64x512 .bf16 := if j.1 = 0 then packed (own m c j.2) else packed (both m c j.2)
/-- What lands in slot `j` of device `c`. -/
def inc (c : Dev nD) (j : Slot) : Vec F S1x64x512 .bf16 := snt m (peer c j) j

/-- The first stage sends the own chunk. -/
theorem snt_zero (c : Dev nD) (k : Fin 8) : snt m c (0, k) = packed (own m c k) := if_pos rfl
/-- The second stage sends the sum of two devices. -/
theorem snt_one (c : Dev nD) (k : Fin 8) : snt m c (1, k) = packed (both m c k) := if_neg (by decide : ¬((1 : Fin 2) = 0))
/-- The own chunk with what lands in the first stage is the two devices' sum. -/
theorem both_eq (c : Dev nD) (k : Fin 8) : plus (own m c k) (inc m c (0, k)) = both m c k := by
  unfold inc both; rw [snt_zero]
/-- That sum with what lands in the second stage is the result. -/
theorem final_eq (c : Dev nD) (k : Fin 8) : rounded (plus (both m c k) (inc m c (1, k))) = final m c k := by
  unfold inc final; rw [snt_one]

/-! ## The resources of a slot -/

/-- Slot `j` of device `c`'s send buffer, holding `f`. -/
def sendPts (c : Dev nD) (j : Slot) (f : Buf (Elt F) ((slotM sendM j.1 j.2).view.loc (c : Thread nD τ))) : sProp 𝕄 :=
  (slotM sendM j.1 j.2).view.loc (c : Thread nD τ) ↦[(slotM sendM j.1 j.2).view.set]{fullShare} f
/-- Slot `j` of device `c`'s receive buffer, holding `f`. -/
def recvPts (c : Dev nD) (j : Slot) (f : Buf (Elt F) ((slotM recvM j.1 j.2).view.loc (c : Thread nD τ))) : sProp 𝕄 :=
  (slotM recvM j.1 j.2).view.loc (c : Thread nD τ) ↦[(slotM recvM j.1 j.2).view.set]{fullShare} f
/-- Slot `j` of device `c`'s send buffer, at any contents. -/
def sendFree (c : Dev nD) (j : Slot) : sProp 𝕄 := iprop(∃ f, sendPts c j f)
/-- Slot `j` of device `c`'s receive buffer, at any contents. -/
def recvFree (c : Dev nD) (j : Slot) : sProp 𝕄 := iprop(∃ f, recvPts c j f)
/-- The send slot holding the chunk `V`. -/
def sendAt (c : Dev nD) (j : Slot) (V : Vec F S1x64x512 .bf16) : sProp 𝕄 :=
  iprop(∃ f, ⌜sendM.view.readAt (Elt F) (rS j.1 j.2).toLoadRect f = V⌝ ∗ sendPts c j f)
/-- The receive slot holding the chunk `V`. -/
def recvAt (c : Dev nD) (j : Slot) (V : Vec F S1x64x512 .bf16) : sProp 𝕄 :=
  iprop(∃ f, ⌜recvM.view.readAt (Elt F) (rS j.1 j.2).toLoadRect f = V⌝ ∗ recvPts c j f)
/-- The device's copy of its weights in place, with the weights themselves. -/
def weights (c : Dev nD) : sProp 𝕄 :=
  iprop((((c : Thread nD τ).loc cc0_scratch2) ↦{fullShare} ewstg m c) ∗ (((c : Thread nD τ).loc main_arg3) ↦{fullShare} m ((c : Thread nD τ).loc main_arg3)))

/-- A free send slot may be kept in a cell. -/
instance sendFree_storable (c : Dev nD) (j : Slot) : BI.Storable (upEmb : UEmb _ 𝕄) (sendFree (F := F) c j) := by unfold sendFree sendPts; infer_instance
/-- A free receive slot may be kept in a cell. -/
instance recvFree_storable (c : Dev nD) (j : Slot) : BI.Storable (upEmb : UEmb _ 𝕄) (recvFree (F := F) c j) := by unfold recvFree recvPts; infer_instance
/-- A filled receive slot may be kept in a cell. -/
instance recvAt_storable (c : Dev nD) (j : Slot) (V) : BI.Storable (upEmb : UEmb _ 𝕄) (recvAt (F := F) c j V) := by unfold recvAt recvPts; infer_instance
/-- The copied weights may be kept in a cell. -/
instance weights_storable (c : Dev nD) : BI.Storable (upEmb : UEmb _ 𝕄) (weights (F := F) m c) := by unfold weights; infer_instance

/-- The slots exchanged with neighbour `b`. -/
def mine (b : Bool) : Finset Slot := Finset.univ.filter fun j => nb j = b
/-- What the signal of neighbour `b` hands the barrier's owner: the neighbour's receive slots it will write. -/
def barPay (c : Dev nD) (b : Bool) : sProp 𝕄 := bigSep (mine b) fun j => recvFree (pr c b) j

/-- A greeting's payload may be kept in a cell. -/
instance barPay_storable (c : Dev nD) (b : Bool) : BI.Storable (upEmb : UEmb _ 𝕄) (barPay (F := F) c b) := by unfold barPay; infer_instance

/-! ## The schedule -/

/-- The payload of a cell, by its role. -/
def payOf (c : Dev nD) (d : Bool) : Role → sProp 𝕄
  | .bar => barPay c d
  | .weights => weights m c
  | .send j => sendFree c j
  | .recv j => recvAt c j (inc m c j)
  | .other => iprop(emp)
/-- The amount of a cell's duty, by its role. -/
def amtOf : Role → ℕ
  | .bar => 1
  | .weights => NW
  | _ => N
/-- A cell's duties, by its role. -/
def dutOf : Role → Finset Bool
  | .bar => Finset.univ
  | .other => ∅
  | _ => {false}

/-- One round: a barrier cell has two duties of one unit, every other cell one duty of its copy's credit. -/
def sched : Rounds.Schedule (GSem nD τ sig) Bool 𝕄 where
  duties g r := if r = 0 ∧ g.1.2 = .tc then dutOf (role g.2) else ∅
  unitless _ := False
  amount g _ _ := amtOf (role g.2)
  payload g _ d := payOf m g.1.1 d (role g.2)
  amount_pos g _ _ _ := by
    cases role g.2 <;> first | exact Nat.one_pos | exact NW_pos | exact N_pos

/-- Every payload of the schedule may be kept in a cell. -/
instance sched_payload_storable (g : GSem nD τ sig) (r : ℕ) (d : Bool) : BI.Storable (upEmb : UEmb _ 𝕄) ((sched (F := F) m).payload g r d) := by
  show BI.Storable upEmb (payOf m g.1.1 d (role g.2))
  cases role g.2 <;> (unfold payOf; infer_instance)

section Sched
variable (c : Dev nD)

/-- A cell's duties in round 0, by its role. -/
theorem duties_at (k : All) : (sched (F := F) m).duties (kcell (c, k)) 0 = dutOf (roleOf k) := by
  dsimp only [sched]; rw [role_csem]; exact if_pos ⟨rfl, rfl⟩
/-- No cell has duties after round 0. -/
theorem duties_later (g : GSem nD τ sig) : ∀ r, 1 ≤ r → (sched (F := F) m).duties g r = ∅ :=
  fun r hr => by dsimp only [sched]; exact if_neg fun h => by omega
/-- A duty's amount, by the cell's role. -/
theorem amount_at (k : All) (d : Bool) : (sched (F := F) m).amount (kcell (c, k)) 0 d = amtOf (roleOf k) := by
  dsimp only [sched]; rw [role_csem]
/-- A duty's payload, by the cell's role. -/
theorem payload_at (k : All) (d : Bool) : (sched (F := F) m).payload (kcell (c, k)) 0 d = payOf m c d (roleOf k) := by
  dsimp only [sched]; rw [role_csem]

/-- The barrier's round is two units. -/
theorem expect_bar : (sched (F := F) m).expect (barCell c) 0 = 2 := by
  unfold Schedule.expect Schedule.amountOf
  rw [show barCell c = kcell (c, iBar) from rfl, duties_at, Finset.sum_congr rfl fun d _ => amount_at m c iBar d]
  rfl
/-- The round of a cell with one duty is that duty's amount. -/
theorem expect_one (k : All) (h : dutOf (roleOf k) = {false}) : (sched (F := F) m).expect (kcell (c, k)) 0 = amtOf (roleOf k) := by
  unfold Schedule.expect Schedule.amountOf
  rw [duties_at, h, Finset.sum_singleton, amount_at]

/-- All of a barrier's round: both neighbours' slots. -/
theorem rest_bar : bigSep ((sched (F := F) m).duties (barCell c) 0 \ ∅) (fun d => (sched (F := F) m).payload (barCell c) 0 d)
    = iprop(barPay c false ∗ barPay c true) := by
  rw [Finset.sdiff_empty, show barCell c = kcell (c, iBar) from rfl, duties_at]
  show bigSep Finset.univ _ = _
  rw [bigSep_univ_eq_bigSepL [false, true] (by decide) (by decide), bigSepL_cons_cons, bigSepL_singleton, payload_at, payload_at]
  rfl
/-- All of the round of a cell with one duty. -/
theorem rest_one (k : All) (h : dutOf (roleOf k) = {false}) :
    bigSep ((sched (F := F) m).duties (kcell (c, k)) 0 \ ∅) (fun d => (sched (F := F) m).payload (kcell (c, k)) 0 d) = payOf m c false (roleOf k) := by
  rw [Finset.sdiff_empty, duties_at, h, bigSep_singleton, payload_at]

end Sched

/-! ## What is owed, and the levels -/

/-- What a device owes for the slots in `l` it has still to send, the first outermost. -/
def Oof (c : Dev nD) : List Slot → CellTallies nD τ sig Unit
  | [] => 0
  | j :: l => Oof c l + tallyAt (recvCell (peer c j) j) () N
/-- The chunks in the order they are handled. -/
def order : List (Fin 8) := [0, 4, 1, 5, 2, 6, 3, 7]
/-- The slots in the order they are sent. -/
def allSlots : List Slot := order.map (fun k => (0, k)) ++ order.map (fun k => (1, k))
/-- What a device owes when it starts: every slot, and a unit to each neighbour's barrier. -/
def O₁ (c : Dev nD) : CellTallies nD τ sig Unit := Oof c allSlots + tallyAt (barCell (pr c true)) () 1
/-- With the first neighbour's barrier unit as well: everything owed at the start. -/
def O₀ (c : Dev nD) : CellTallies nD τ sig Unit := O₁ c + tallyAt (barCell (pr c false)) () 1

/-- The levels' labels: one for every cell of a core that runs the body. -/
def L (g : GSem nD τ sig) : Finset Unit := if g.1.2 = .tc then {()} else ∅
/-- The level of a cell, by its role: the barrier lowest of what is owed, then the two stages' receive cells. -/
def lvOf : Role → ℕ
  | .bar => 1
  | .recv j => 2 + j.1.val
  | _ => 0
/-- The level of a cell. -/
def lv (g : GSem nD τ sig) (_ : Unit) : ℕ := lvOf (role g.2)

/-- Cells of other cores have no label. -/
theorem L_of_ne (g : GSem nD τ sig) (h : g.1.2 ≠ .tc) : L g = ∅ := if_neg h
/-- A body's cells have the one label. -/
theorem L_tc (c : Dev nD) (sm : SemLoc sig) : L ((c : Thread nD τ), sm) = {()} := if_pos rfl
/-- A receive cell's level is its stage's. -/
theorem lv_recv (c : Dev nD) (j : Slot) (u : Unit) : lv (recvCell c j) u = 2 + j.1.val := by unfold lv; rw [role_r]; rfl
/-- The barrier's level. -/
theorem lv_bar (c : Dev nD) (u : Unit) : lv (barCell c) u = 1 := by unfold lv; rw [role_bar]; rfl

/-- What is owed for a list of slots is owed to the receive cells of those slots' neighbours. -/
theorem Oof_pos {c : Dev nD} {l : List Slot} {g : GSem nD τ sig} {u : Unit} (h : 0 < Oof c l g u) : ∃ j ∈ l, g = recvCell (peer c j) j := by
  induction l with
  | nil => exact absurd h (Nat.lt_irrefl 0)
  | cons j l ih =>
    unfold Oof at h
    rw [Pi.add_apply, Finsupp.add_apply, tallyAt_apply] at h
    by_cases hg : g = recvCell (peer c j) j ∧ u = ()
    · exact ⟨j, List.mem_cons_self, hg.1⟩
    · rw [if_neg hg, Nat.add_zero] at h
      obtain ⟨j', hj, e⟩ := ih h
      exact ⟨j', List.mem_cons_of_mem _ hj, e⟩

/-- What is owed with one more unit is owed before, or to that unit's cell. -/
theorem add_tally_pos {A : CellTallies nD τ sig Unit} {g' g : GSem nD τ sig} {u : Unit} (h : 0 < (A + tallyAt g' () 1) g u) :
    0 < A g u ∨ g = g' := by
  rw [Pi.add_apply, Finsupp.add_apply, tallyAt_apply] at h
  by_cases h1 : g = g' ∧ u = ()
  · exact Or.inr h1.1
  · rw [if_neg h1, Nat.add_zero] at h; exact Or.inl h

/-- Everything owed at the start is owed to a neighbour's receive cell or barrier. -/
theorem O₀_pos {c : Dev nD} {g : GSem nD τ sig} {u : Unit} (h : 0 < O₀ c g u) :
    (∃ j ∈ allSlots, g = recvCell (peer c j) j) ∨ g = barCell (pr c true) ∨ g = barCell (pr c false) := by
  rcases add_tally_pos h with h | h
  · rcases add_tally_pos h with h | h
    · exact Or.inl (Oof_pos h)
    · exact Or.inr (Or.inl h)
  · exact Or.inr (Or.inr h)

/-- A wait at level `b` while owing slots of a higher level. -/
theorem mayWait_slots (c : Dev nD) (sm : SemLoc sig) (b : ℕ) (hb : lvOf (role sm) ≤ b) (l : List Slot) (hl : ∀ j ∈ l, b < 2 + j.1.val) :
    (levAts L lv : sProp 𝕄) ⊢ MayWait (c : Thread nD τ) sm () (Oof c l) :=
  MayOwe.of_cut (L := L) (lev := lv) b (fun p hp => by rw [Finset.mem_singleton.mp hp, L_tc]; exact Finset.mem_singleton_self _)
    (fun g u hg => by obtain ⟨j, _, rfl⟩ := Oof_pos hg; rw [L_tc]; exact Finset.mem_singleton_self _)
    (fun p hp => by rw [Finset.mem_singleton.mp hp]; exact hb)
    (fun g u hg => by obtain ⟨j, hj, rfl⟩ := Oof_pos hg; rw [lv_recv]; exact hl j hj)

/-- A staging wait, at level 0, at any time. -/
theorem mayWait_stage (c : Dev nD) (sm : SemLoc sig) (hb : lvOf (role sm) = 0) (O : CellTallies nD τ sig Unit) (hO : O = O₀ c ∨ O = 0) :
    (levAts L lv : sProp 𝕄) ⊢ MayWait (c : Thread nD τ) sm () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨j, _, rfl⟩ | rfl | rfl <;> (rw [L_tc]; exact Finset.mem_singleton_self _))
      (fun p hp => by rw [Finset.mem_singleton.mp hp]; exact hb.le)
      (fun g u hg => by
        rcases O₀_pos hg with ⟨j, _, rfl⟩ | rfl | rfl
        · rw [lv_recv]; omega
        · rw [lv_bar]; exact Nat.one_pos
        · rw [lv_bar]; exact Nat.one_pos)
  · rw [MayWait_zero]; iintro -; iempintro

/-- What is owed, the record of past waits left open. -/
def owesAny (c : Dev nD) (O : CellTallies nD τ sig Unit) : sProp 𝕄 := iprop(∃ W, owes (c : Thread nD τ) O W)

end Cert.TopTwo

end
-- ==== Proof.Steps.lean ====
/-
# One rule per piece of the plan

Each piece of the plan — store a chunk, send it, wait for a slot, read it — has one rule, stated for a symbolic
device and slot. The two halves of a chunk's way (`relay`, `finish`) follow from them.
-/
module

public import proofs.«01_k».proof.Proof.Protocol

@[expose] public section

noncomputable section

namespace Cert.TopTwo

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Cells can be told apart. -/
instance decAll : DecidableEq All := inferInstanceAs (DecidableEq (Unit ⊕ (Unit ⊕ (Slot ⊕ Slot))))
/-- Devices' cells can be told apart. -/
instance decCells : DecidableEq (Dev nD × All) := instDecidableEqProd

/-- No loop in the body has a variant. -/
abbrev 𝒱₀ : Variants := Variants.none

/-- The body's weakest precondition on device `c`. -/
abbrev WP (c : Dev nD) (P : Body F) (Q : PUnit → sProp 𝕄) : sProp 𝕄 :=
  wp frame (wpE (defs₀ (F := F)) 𝒱₀ (c : Thread nD τ) none) Set.univ P Q

/-! ## The records every device shares: the cells' invariants and that each is at its round -/

/-- The invariants of all cells, under the names `K`, and that every cell has reached round 0. -/
def records (K : Dev nD × All → ℕ) : sProp 𝕄 :=
  iprop((bigSep Finset.univ fun ck : Dev nD × All => cellInv ER (sched m) (K ck) (kcell ck))
    ∗ bigSep Finset.univ fun ck : Dev nD × All => reached ER (kcell ck) 0)

/-- The records can be used any number of times. -/
instance records_persistent (K : Dev nD × All → ℕ) : BI.Persistent (records (F := F) m K) := by unfold records; infer_instance

/-- A cell's invariant, out of the records. -/
theorem records_inv (K : Dev nD × All → ℕ) (ck : Dev nD × All) : records m K ⊢ cellInv ER (sched m) (K ck) (kcell ck) := by
  have h : (bigSep Finset.univ fun ck : Dev nD × All => (cellInv ER (sched m) (K ck) (kcell ck) : sProp 𝕄)) ⊢ cellInv ER (sched m) (K ck) (kcell ck) :=
    bigSep_elim (Finset.mem_univ ck)
  unfold records
  iintro ⟨H, -⟩
  iapply h; iexact H
/-- A cell has reached round 0, out of the records. -/
theorem records_reached (K : Dev nD × All → ℕ) (ck : Dev nD × All) : records m K ⊢ reached ER (kcell ck) 0 := by
  have h : (bigSep Finset.univ fun ck : Dev nD × All => (reached ER (kcell ck) 0 : sProp 𝕄)) ⊢ reached ER (kcell ck) 0 :=
    bigSep_elim (Finset.mem_univ ck)
  unfold records
  iintro ⟨-, H⟩
  iapply h; iexact H

/-! ## What the accesses read and write -/

/-- A slot as a copy addresses it and as a load or store does: the same elements. -/
theorem slot_set (b : Memref sig .tc .vmem S2x512x512 .bf16) (s : Fin 2) (k : Fin 8) : (slotM b s k).view.set = (b.access (rS s k)).set :=
  View.set_reshape _ _

/-- A load from a slot reads the slot's elements only. -/
theorem load_subset (b : Memref sig .tc .vmem S2x512x512 .bf16) (s : Fin 2) (k : Fin 8) :
    b.view.setOn (rS s k).toLoadRect.set ⊆ (slotM b s k).view.set := by
  rw [slot_set, show (b.access (rS s k)).set = (b.view.slice (rS s k)).set from rfl, View.set_slice]
  exact Finset.Subset.refl _
/-- A store to a slot writes the slot's elements only. -/
theorem store_subset (b : Memref sig .tc .vmem S2x512x512 .bf16) (s : Fin 2) (k : Fin 8) :
    (b.access (rS s k)).setOn Finset.univ ⊆ (slotM b s k).view.set := by
  rw [slot_set]; exact Finset.Subset.refl _

/-- A store to a slot is read back by a load from it. -/
theorem read_store (b : Memref sig .tc .vmem S2x512x512 .bf16) (s : Fin 2) (k : Fin 8) (f : (b.access (rS s k)).ty.Contents (Elt F)) (V : Vec F S1x64x512 .bf16) :
    b.view.readAt (Elt F) (rS s k).toLoadRect ((b.access (rS s k)).write (Elt F) f V Finset.univ) = V :=
  View.read_write_univ (v := b.view.slice (rS s k)) f V

/-- A load from a slot a copy landed in reads what a load from the copied slot reads. -/
theorem read_landed (b b' : Memref sig .tc .vmem S2x512x512 .bf16) (s : Fin 2) (k : Fin 8) (fd : b'.view.ty.Contents (Elt F)) (fs : b.view.ty.Contents (Elt F)) :
    b'.view.readAt (Elt F) (rS s k).toLoadRect ((slotM b' s k).view.write (Elt F) fd ((slotM b s k).view.read (Elt F) fs) Finset.univ)
      = b.view.readAt (Elt F) (rS s k).toLoadRect fs := by
  have h := View.read_write_univ (v := (slotM b' s k).view) (Val := Elt F) fd ((slotM b s k).view.read (Elt F) fs)
  have e := Shape.reshapeEquiv (squeezes_S1x64x512_S64x512).numel_eq
  funext x
  have := congrFun h ((Shape.reshapeEquiv (squeezes_S1x64x512_S64x512).numel_eq).symm x)
  have hx : ∀ (B : Memref sig .tc .vmem S2x512x512 .bf16) (g : B.view.ty.Contents (Elt F)),
      (slotM B s k).view.read (Elt F) g ((Shape.reshapeEquiv (squeezes_S1x64x512_S64x512).numel_eq).symm x) = B.view.readAt (Elt F) (rS s k).toLoadRect g x := by
    intro B g
    show (B.view.slice (rS s k)).read (Elt F) g (Shape.reshapeEquiv (squeezes_S1x64x512_S64x512).numel_eq ((Shape.reshapeEquiv (squeezes_S1x64x512_S64x512).numel_eq).symm x)) = _
    rw [Equiv.apply_symm_apply]; rfl
  rw [hx, hx] at this
  exact this

/-! ## The pieces -/

/-- Storing a chunk in a send slot. -/
theorem storeSlot_sound (c : Dev nD) (j : Slot) (V : Vec F S1x64x512 .bf16) (K : Body F) (Q : PUnit → sProp 𝕄) :
    iprop(sendFree c j ∗ (sendAt c j V -∗ WP c K Q)) ⊢ WP c (storeSlot j.1 j.2 V K) Q := by
  unfold sendFree sendPts storeSlot WP
  iintro ⟨⟨%f, Hs⟩, Hk⟩
  iapply (wp_load 𝒱₀ (c : Thread nD τ) none Set.univ (m := sendM) (r := (rS j.1 j.2).toLoadRect) (load_subset sendM j.1 j.2)) $$ Hs
  iintro Hs
  iapply (wp_store 𝒱₀ (c : Thread nD τ) none Set.univ (m := sendM) (r := rS j.1 j.2) (Mk := Finset.univ) (store_subset sendM j.1 j.2)) $$ Hs
  iintro Hs
  iapply Hk
  unfold sendAt sendPts
  iexists _
  isplitr
  · ipureintro; exact read_store sendM j.1 j.2 f V
  iexact Hs

/-- What sending slot `j` needs besides the slot: the two duty tokens. -/
def tok (c : Dev nD) (j : Slot) : sProp 𝕄 := iprop(dutyTok ER (sendCell c j) 0 false ∗ dutyTok ER (recvCell (peer c j) j) 0 false)

/-- Sending a slot to its neighbour, which takes what is owed for it off. -/
theorem sendSlot_sound (K' : Dev nD × All → ℕ) (c : Dev nD) (j : Slot) (n : Dev nD) (hn : n = peer c j) (l : List Slot) (K : Body F) (Q : PUnit → sProp 𝕄) :
    iprop(records m K' ∗ sendAt c j (snt m c j) ∗ recvFree (peer c j) j ∗ tok c j ∗ owesAny c (Oof c (j :: l))
        ∗ (iprop(cred (tallyAt (sendCell c j) () N) ∗ owesAny c (Oof c l)) -∗ WP c K Q)) ⊢ WP c (sendSlot j.1 j.2 n K) Q := by
  subst hn
  unfold sendAt recvFree tok owesAny sendSlot WP
  iintro ⟨#HR, ⟨%f, %hf, Hs⟩, ⟨%fd, Hd⟩, ⟨Ht1, Ht2⟩, ⟨%W, HO⟩, Hk⟩
  unfold sendPts recvPts
  iapply (Rounds.wp_send_pointsTo 𝒱₀ ER (sched m) (c : Thread nD τ) none (c' := (peer c j : Thread nD τ)) (κ₁ := K' (c, iS j)) (κ₂ := K' (peer c j, iR j))
    (r₁ := 0) (r₂ := 0) (d₁ := false) (d₂ := false) (fs := f) (fd := fd) (src := slotM sendM j.1 j.2) (dst := slotM recvM j.1 j.2)
    (by rw [show ((c : Thread nD τ), SemLoc.dma (sSem j.1 j.2)) = kcell (c, iS j) from rfl, duties_at]; exact Finset.mem_singleton_self _)
    (by rw [show ((peer c j : Thread nD τ), SemLoc.dma (rSem j.1 j.2)) = kcell (peer c j, iR j) from rfl, duties_at]; exact Finset.mem_singleton_self _)
    () () N rfl (amount_at m c (iS j) false) (amount_at m (peer c j) (iR j) false) (Oof c l) rfl (W := W)
    (by
      rw [show ((c : Thread nD τ), SemLoc.dma (sSem j.1 j.2)) = kcell (c, iS j) from rfl, payload_at]
      show _ ⊢ sendFree c j
      unfold sendFree sendPts; iintro H; iexists f; iexact H)
    (by
      rw [show ((peer c j : Thread nD τ), SemLoc.dma (rSem j.1 j.2)) = kcell (peer c j, iR j) from rfl, payload_at]
      show _ ⊢ recvAt (peer c j) j (inc m (peer c j) j)
      unfold recvAt recvPts
      iintro H; iexists _
      isplitr
      · ipureintro; rw [inc, peer_peer, ← hf]; exact read_landed sendM recvM j.1 j.2 fd f
      iexact H)) $$ [Hs Hd HO Ht1 Ht2]
  · isplitr; · iapply (records_inv m K' (c, iS j)); iexact HR
    isplitr; · iapply (records_inv m K' (peer c j, iR j)); iexact HR
    isplitl [Hs]; · iexact Hs
    isplitl [Hd]; · iexact Hd
    isplitl [HO]; · iexact HO
    isplitl [Ht1]; · iexact Ht1
    isplitr; · iapply (records_reached m K' (c, iS j)); iexact HR
    isplitl [Ht2]; · iexact Ht2
    iapply (records_reached m K' (peer c j, iR j)); iexact HR
  iintro ⟨Hc, HO⟩
  iapply Hk
  isplitl [Hc]; · iexact Hc
  iexists W; iexact HO

/-- What waiting for slot `j` needs: the positions in its two cells and the credit of its landing. -/
def await (c : Dev nD) (j : Slot) : sProp 𝕄 :=
  iprop(atPos ER (sendCell c j) 0 ∅ 0 ∗ atPos ER (recvCell c j) 0 ∅ 0 ∗ cred (tallyAt (recvCell c j) () N))
/-- A slot sent and awaited. -/
def flying (c : Dev nD) (j : Slot) : sProp 𝕄 := iprop(cred (tallyAt (sendCell c j) () N) ∗ await c j)
/-- Both of a slot's cells closed at zero. -/
def closed (c : Dev nD) (j : Slot) : sProp 𝕄 := iprop(semVal (sendCell c j) 0 ∗ semVal (recvCell c j) 0)

/-- A slot's first wait, as a wait of the slot's amount on its send semaphore. -/
theorem wait_send_eq (c : Dev nD) (s : Fin 2) (k : Fin 8) {h h'} (K : PUnit → sProp 𝕄) :
    wpE (defs₀ (F := F)) 𝒱₀ (c : Thread nD τ) none Set.univ (.waitDma2 (sSem s k) (slotM recvM s k) (slotM sendM s k) h h') K
      = waitSpec (c : Thread nD τ) Set.univ (.dma (sSem s k)) N K := by
  rw [wpE_waitDma2_eq, credit_send]
/-- A slot's second wait, as a wait of the slot's amount on its receive semaphore. -/
theorem wait_recv_eq (c : Dev nD) (s : Fin 2) (k : Fin 8) {h h'} (K : PUnit → sProp 𝕄) :
    wpE (defs₀ (F := F)) 𝒱₀ (c : Thread nD τ) none Set.univ (.waitDma2 (rSem s k) (slotM sendM s k) (slotM recvM s k) h h') K
      = waitSpec (c : Thread nD τ) Set.univ (.dma (rSem s k)) N K := by
  rw [wpE_waitDma2_eq, credit_recv]

/-- Waiting for a slot: the send slot is free again, the neighbour's chunk is there, both cells close. -/
theorem waitSlot_sound (K' : Dev nD × All → ℕ) (c : Dev nD) (j : Slot) (l : List Slot) (hl : ∀ i ∈ l, 2 + j.1.val < 2 + i.1.val) (K : Body F) (Q : PUnit → sProp 𝕄) :
    iprop(records m K' ∗ levAts L lv ∗ flying c j ∗ owesAny c (Oof c l)
        ∗ (iprop(sendFree c j ∗ recvAt c j (inc m c j) ∗ closed c j ∗ owesAny c (Oof c l)) -∗ WP c K Q)) ⊢ WP c (waitSlot j.1 j.2 K) Q := by
  unfold flying await owesAny waitSlot WP
  iintro ⟨#HR, #Hlev, ⟨HcS, HaS, HaR, HcR⟩, ⟨%W, HO⟩, Hk⟩
  iapply (Rounds.wp_wait_rest_token 𝒱₀ ER (sched m) (c : Thread nD τ) none (κ := K' (c, iS j)) (sm := .dma (sSem j.1 j.2)) (k' := N)
      (wait_send_eq c j.1 j.2) (Set.mem_univ _) () (O := Oof c l) (W := W) (R := 0) (m := 0) (T := ∅)
      (by rw [Nat.zero_add]; exact (expect_one m c (iS j) rfl).symm)) $$ [HcS HO HaS]
  · isplitr; · iapply (records_inv m K' (c, iS j)); iexact HR
    isplitl [HcS]; · iexact HcS
    isplitl [HO]; · iexact HO
    isplitr
    · iapply (mayWait_slots c (.dma (sSem j.1 j.2)) 0 (by rw [role_s]; exact le_rfl) l (fun i _ => by omega)); iexact Hlev
    iexact HaS
  iintro ⟨HO, HaS, -, Hpay⟩
  ihave Hs := (show _ ⊢ sendFree c j from Entails.of_eq (rest_one m c (iS j) rfl)) $$ Hpay
  iapply (Rounds.wp_wait_rest_token 𝒱₀ ER (sched m) (c : Thread nD τ) none (κ := K' (c, iR j)) (sm := .dma (rSem j.1 j.2)) (k' := N)
      (wait_recv_eq c j.1 j.2) (Set.mem_univ _) () (O := Oof c l) (W := insert (SemLoc.dma (sSem j.1 j.2), ()) W) (R := 0) (m := 0) (T := ∅)
      (by rw [Nat.zero_add]; exact (expect_one m c (iR j) rfl).symm)) $$ [HcR HO HaR]
  · isplitr; · iapply (records_inv m K' (c, iR j)); iexact HR
    isplitl [HcR]; · iexact HcR
    isplitl [HO]; · iexact HO
    isplitr
    · iapply (mayWait_slots c (.dma (rSem j.1 j.2)) (2 + j.1.val) (by rw [role_r]; exact le_rfl) l hl); iexact Hlev
    iexact HaR
  iintro ⟨HO, HaR, -, Hpay⟩
  ihave Hr := (show _ ⊢ recvAt c j (inc m c j) from Entails.of_eq (rest_one m c (iR j) rfl)) $$ Hpay
  imod (Rounds.cell_close ER (sched m) (Set.mem_univ (K' (c, iS j))) (fun h => h) (R := 0 + 1) (duties_later m (kcell (c, iS j)))) $$ [HaS] with HzS
  · isplitr; · iapply (records_inv m K' (c, iS j)); iexact HR
    iexact HaS
  imod (Rounds.cell_close ER (sched m) (Set.mem_univ (K' (c, iR j))) (fun h => h) (R := 0 + 1) (duties_later m (kcell (c, iR j)))) $$ [HaR] with HzR
  · isplitr; · iapply (records_inv m K' (c, iR j)); iexact HR
    iexact HaR
  iapply Hk
  unfold closed
  isplitl [Hs]; · iexact Hs
  isplitl [Hr]; · iexact Hr
  isplitl [HzS HzR]
  · isplitl [HzS]; · iexact HzS
    iexact HzR
  iexists _; iexact HO

/-- Reading a receive slot. -/
theorem readSlot_sound (c : Dev nD) (j : Slot) (V : Vec F S1x64x512 .bf16) (K : Vec F S1x64x512 .bf16 → Body F) (Q : PUnit → sProp 𝕄) :
    iprop(recvAt c j V ∗ (recvFree c j -∗ WP c (K V) Q)) ⊢ WP c (readSlot j.1 j.2 K) Q := by
  unfold recvAt recvPts readSlot WP
  iintro ⟨⟨%f, %hf, Hs⟩, Hk⟩
  iapply (wp_load 𝒱₀ (c : Thread nD τ) none Set.univ (m := recvM) (r := (rS j.1 j.2).toLoadRect) (load_subset recvM j.1 j.2)) $$ Hs
  rw [hf]
  iintro Hs
  iapply Hk
  unfold recvFree recvPts
  iexists f; iexact Hs

/-! ## The two halves of a chunk's way -/

/-- A slot before it is sent: its send slot, the slot it will land in, its tokens, and what its wait needs. -/
def ready (c : Dev nD) (j : Slot) : sProp 𝕄 := iprop(sendFree c j ∗ recvFree (peer c j) j ∗ tok c j ∗ await c j)
/-- A slot after its wait: both buffers' slots free, both cells at zero. -/
def spent (c : Dev nD) (j : Slot) : sProp 𝕄 := iprop(sendFree c j ∗ recvFree c j ∗ closed c j)

/-- Store and send chunk `k` in stage 0. -/
theorem first_sound (K' : Dev nD × All → ℕ) (c : Dev nD) (k : Fin 8) (n : Dev nD) (hn : n = peer c (0, k)) (l : List Slot) (K : Body F) (Q : PUnit → sProp 𝕄) :
    iprop(records m K' ∗ ready c (0, k) ∗ owesAny c (Oof c ((0, k) :: l)) ∗ (iprop(flying c (0, k) ∗ owesAny c (Oof c l)) -∗ WP c K Q))
      ⊢ WP c (storeSlot 0 k (packed (own m c k)) (sendSlot 0 k n K)) Q := by
  unfold ready
  iintro ⟨#HR, ⟨Hs, Hd, Ht, Hw⟩, HO, Hk⟩
  iapply (storeSlot_sound c (0, k) (packed (own m c k)) (sendSlot 0 k n K) Q)
  isplitl [Hs]; · iexact Hs
  iintro Hs
  iapply (sendSlot_sound m K' c (0, k) n hn l K Q)
  isplitr; · iexact HR
  isplitl [Hs]; · rw [snt_zero]; iexact Hs
  isplitl [Hd]; · iexact Hd
  isplitl [Ht]; · iexact Ht
  isplitl [HO]; · iexact HO
  iintro ⟨Hc, HO⟩
  iapply Hk
  unfold flying
  isplitl [Hc Hw]
  · isplitl [Hc]; · iexact Hc
    iexact Hw
  iexact HO

/-- The relay of chunk `k`: wait, add, store, send on. -/
theorem relay_sound (K' : Dev nD × All → ℕ) (c : Dev nD) (k : Fin 8) (n : Dev nD) (hn : n = peer c (1, k)) (l : List Slot) (hl : ∀ i ∈ l, i.1 = 1)
    (K : FVec F S64x512 .f32 → Body F) (Q : PUnit → sProp 𝕄) :
    iprop(records m K' ∗ levAts L lv ∗ flying c (0, k) ∗ ready c (1, k) ∗ owesAny c (Oof c ((1, k) :: l))
        ∗ (iprop(spent c (0, k) ∗ flying c (1, k) ∗ owesAny c (Oof c l)) -∗ WP c (K (both m c k)) Q))
      ⊢ WP c (relay k n (own m c k) K) Q := by
  unfold ready relay
  iintro ⟨#HR, #Hlev, Hf, ⟨Hs, Hd, Ht, Hw⟩, HO, Hk⟩
  iapply (waitSlot_sound m K' c (0, k) ((1, k) :: l) (by
    intro i hi
    rcases List.mem_cons.mp hi with rfl | hi
    · show 2 + 0 < 2 + 1; omega
    · rw [hl i hi]; show 2 + 0 < 2 + 1; omega) _ Q)
  isplitr; · iexact HR
  isplitr; · iexact Hlev
  isplitl [Hf]; · iexact Hf
  isplitl [HO]; · iexact HO
  iintro ⟨Hs0, Hr0, Hz, HO⟩
  iapply (readSlot_sound c (0, k) (inc m c (0, k)) _ Q)
  isplitl [Hr0]; · iexact Hr0
  iintro Hr0
  rw [both_eq]
  iapply (storeSlot_sound c (1, k) (packed (both m c k)) _ Q)
  isplitl [Hs]; · iexact Hs
  iintro Hs
  iapply (sendSlot_sound m K' c (1, k) n hn l _ Q)
  isplitr; · iexact HR
  isplitl [Hs]; · rw [snt_one]; iexact Hs
  isplitl [Hd]; · iexact Hd
  isplitl [Ht]; · iexact Ht
  isplitl [HO]; · iexact HO
  iintro ⟨Hc, HO⟩
  iapply Hk
  unfold spent flying
  isplitl [Hs0 Hr0 Hz]
  · isplitl [Hs0]; · iexact Hs0
    isplitl [Hr0]; · iexact Hr0
    iexact Hz
  isplitl [Hc Hw]
  · isplitl [Hc]; · iexact Hc
    iexact Hw
  iexact HO

/-- The result's buffer, holding `f`. -/
def outPts (c : Dev nD) (f : (cc0_stg3_0 : Ref sig .tc).ty.Contents (Elt F)) : sProp 𝕄 := ((c : Thread nD τ).loc cc0_stg3_0) ↦{fullShare} f
/-- The result's buffer with chunk `k` written. -/
def putOut (c : Dev nD) (k : Fin 8) (f : (cc0_stg3_0 : Ref sig .tc).ty.Contents (Elt F)) : (cc0_stg3_0 : Ref sig .tc).ty.Contents (Elt F) :=
  (outM.access (rOut k)).write (Elt F) f (final m c k) Finset.univ

/-- The last step of chunk `k`: wait, add, write the result's rows. -/
theorem finish_sound (K' : Dev nD × All → ℕ) (c : Dev nD) (k : Fin 8) (f : (cc0_stg3_0 : Ref sig .tc).ty.Contents (Elt F)) (K : Body F) (Q : PUnit → sProp 𝕄) :
    iprop(records m K' ∗ levAts L lv ∗ flying c (1, k) ∗ outPts c f ∗ owesAny c 0
        ∗ (iprop(spent c (1, k) ∗ outPts c (putOut m c k f) ∗ owesAny c 0) -∗ WP c K Q))
      ⊢ WP c (finish k (both m c k) K) Q := by
  unfold finish
  iintro ⟨#HR, #Hlev, Hf, Hout, HO, Hk⟩
  iapply (waitSlot_sound m K' c (1, k) [] (fun i hi => absurd hi List.not_mem_nil) _ Q)
  isplitr; · iexact HR
  isplitr; · iexact Hlev
  isplitl [Hf]; · iexact Hf
  isplitl [HO]; · iexact HO
  iintro ⟨Hs0, Hr0, Hz, HO⟩
  iapply (readSlot_sound c (1, k) (inc m c (1, k)) _ Q)
  isplitl [Hr0]; · iexact Hr0
  iintro Hr0
  rw [final_eq]
  unfold outPts WP
  iapply (wp_load 𝒱₀ (c : Thread nD τ) none Set.univ (m := outM) (r := (rOut k).toLoadRect) (Finset.subset_univ _)) $$ Hout
  iintro Hout
  iapply (wp_store 𝒱₀ (c : Thread nD τ) none Set.univ (m := outM) (r := rOut k) (Mk := Finset.univ) (Finset.subset_univ _)) $$ Hout
  iintro Hout
  iapply Hk
  unfold spent
  isplitl [Hs0 Hr0 Hz]
  · isplitl [Hs0]; · iexact Hs0
    isplitl [Hr0]; · iexact Hr0
    iexact Hz
  isplitl [Hout]; · iexact Hout
  iexact HO

end Cert.TopTwo

end
-- ==== Proof.Buffers.lean ====
/-
# Cutting the exchange buffers into slots and the result into chunks

A send or receive buffer is its sixteen slots, which do not overlap; the result's buffer is covered by its eight
row chunks, so after all chunks are written it holds exactly them (`outAt`), whatever it held before.
-/
module

public import proofs.«01_k».proof.Proof.Steps
public import Idealize.ShloMosaic.Lib.ViewIndex

@[expose] public section

noncomputable section

namespace Cert.TopTwo

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ)

/-- A conjunction over a finite set, summand by summand. -/
theorem each {I : Type} {S : Finset I} {Φ Ψ : I → sProp 𝕄} (h : ∀ i ∈ S, Φ i ⊢ Ψ i) : bigSep S Φ ⊢ bigSep S Ψ := bigSep_mono h

/-! ## The slots of a buffer -/

/-- An index is in slot `(s, k)` when its half is `s` and its row is one of the 64 from `64 * k`. -/
theorem mem_slot (s : Fin 2) (k : Fin 8) (i : S2x512x512.Idx) : i ∈ (rS s k).set ↔ (i 0).val = s.val ∧ 64 * k.val ≤ (i 1).val ∧ (i 1).val < 64 * k.val + 64 := by
  rw [Rect.mem_set_unit]
  constructor
  · intro h
    have h0 := h 0; have h1 := h 1
    simp [off] at h0 h1
    omega
  · rintro ⟨h0, h1, h2⟩ a
    fin_cases a
    · show s.val ≤ (i 0).val ∧ (i 0).val < s.val + 1; omega
    · show 64 * k.val ≤ (i 1).val ∧ (i 1).val < 64 * k.val + 64; omega
    · show 0 ≤ (i 2).val ∧ (i 2).val < 0 + 512
      have : (i 2).val < 512 := (i 2).isLt
      omega

/-- Two slots do not overlap. -/
theorem slots_disjoint (j j' : Slot) (h : j ≠ j') : Disjoint (rS j.1 j.2).set (rS j'.1 j'.2).set := by
  rw [Finset.disjoint_left]
  intro i hi hi'
  rw [mem_slot] at hi hi'
  apply h
  apply Prod.ext <;> apply Fin.ext <;> omega

/-- Every index is in a slot. -/
theorem slots_cover (i : S2x512x512.Idx) : ∃ j : Slot, i ∈ (rS j.1 j.2).set := by
  have h0 : (i 0).val < 2 := (i 0).isLt
  have h1 : (i 1).val < 512 := (i 1).isLt
  refine ⟨(⟨(i 0).val, h0⟩, ⟨(i 1).val / 64, by omega⟩), (mem_slot _ _ _).mpr ⟨rfl, ?_, ?_⟩⟩ <;> (dsimp only; omega)

/-- Different slots of a buffer share no element. -/
theorem slotSet_disjoint (b : Memref sig .tc .vmem S2x512x512 .bf16) (j j' : Slot) (h : j ≠ j') :
    Disjoint (slotM b j.1 j.2).view.set (slotM b j'.1 j'.2).view.set := by
  rw [slot_set, slot_set]
  exact View.disjoint_slice (v := b.view) (slots_disjoint j j' h)

/-- A whole buffer's elements are those of its slots. -/
theorem slotSet_cover (b : Memref sig .tc .vmem S2x512x512 .bf16) :
    (Finset.univ : Finset Slot).biUnion (fun j => (slotM b j.1 j.2).view.set) = b.view.set := by
  ext i
  rw [Finset.mem_biUnion]
  constructor
  · rintro ⟨j, -, hi⟩
    rw [slot_set] at hi
    obtain ⟨x, hx⟩ := View.exists_of_mem_set_slice (v := b.view) hi
    rw [← hx]
    exact Finset.mem_map_of_mem _ (Finset.mem_univ _)
  · intro hi
    obtain ⟨y, -, rfl⟩ := Finset.mem_map.mp hi
    obtain ⟨j, hj⟩ := slots_cover y
    refine ⟨j, Finset.mem_univ _, ?_⟩
    rw [slot_set, show (b.access (rS j.1 j.2)).set = (b.view.slice (rS j.1 j.2)).set from rfl, View.set_slice]
    exact Finset.mem_map_of_mem _ hj

/-- The send buffer, whole, is its slots. -/
theorem split_send (c : Dev nD) : (iprop(∃ f, ((c : Thread nD τ).loc cc0_scratch0) ↦{fullShare} f) : sProp 𝕄) ⊢ bigSep Finset.univ fun j : Slot => sendFree c j := by
  iintro ⟨%f, H⟩
  have e := pointsTo_biUnion (Ix := Unit) (Name := ℕ) (U := UU) (Lvl := ℕ) (Val := Elt F) (q := fullShare) (ℓ := (c : Thread nD τ).loc cc0_scratch0) (f := f) (Finset.univ : Finset Slot) (fun j => (slotM sendM j.1 j.2).view.set) (fun t _ t' _ h => slotSet_disjoint sendM t t' h)
  rw [slotSet_cover, View.set_whole] at e
  ihave H' := (Entails.of_eq e) $$ H
  iapply (each (S := (Finset.univ : Finset Slot)) fun (j : Slot) _ => (show (((c : Thread nD τ).loc cc0_scratch0) ↦[(slotM sendM j.1 j.2).view.set]{fullShare} f : sProp 𝕄) ⊢ sendFree c j from by
    unfold sendFree sendPts; iintro H; iexists f; iexact H))
  iexact H'
/-- The receive buffer, whole, is its slots. -/
theorem split_recv (c : Dev nD) : (iprop(∃ f, ((c : Thread nD τ).loc cc0_scratch1) ↦{fullShare} f) : sProp 𝕄) ⊢ bigSep Finset.univ fun j : Slot => recvFree c j := by
  iintro ⟨%f, H⟩
  have e := pointsTo_biUnion (Ix := Unit) (Name := ℕ) (U := UU) (Lvl := ℕ) (Val := Elt F) (q := fullShare) (ℓ := (c : Thread nD τ).loc cc0_scratch1) (f := f) (Finset.univ : Finset Slot) (fun j => (slotM recvM j.1 j.2).view.set) (fun t _ t' _ h => slotSet_disjoint recvM t t' h)
  rw [slotSet_cover, View.set_whole] at e
  ihave H' := (Entails.of_eq e) $$ H
  iapply (each (S := (Finset.univ : Finset Slot)) fun (j : Slot) _ => (show (((c : Thread nD τ).loc cc0_scratch1) ↦[(slotM recvM j.1 j.2).view.set]{fullShare} f : sProp 𝕄) ⊢ recvFree c j from by
    unfold recvFree recvPts; iintro H; iexists f; iexact H))
  iexact H'

/-- The slots of the send buffer put together again. -/
theorem join_send (c : Dev nD) : (bigSep Finset.univ fun j : Slot => sendFree c j) ⊢ (iprop(∃ f, ((c : Thread nD τ).loc cc0_scratch0) ↦{fullShare} f) : sProp 𝕄) := by
  unfold sendFree sendPts
  iintro H
  ihave H1 := (BI.bigSep_exists_pi Finset.univ (fun (j : Slot) (f : Buf (Elt F) ((slotM sendM j.1 j.2).view.loc (c : Thread nD τ))) => ((slotM sendM j.1 j.2).view.loc (c : Thread nD τ) ↦[(slotM sendM j.1 j.2).view.set]{fullShare} f : sProp 𝕄))) $$ H
  icases H1 with ⟨%fs, H⟩
  ihave H2 := (pointsTo_biUnion_join (Ix := Unit) (Name := ℕ) (U := UU) (Lvl := ℕ) (Val := Elt F) (q := fullShare) (ℓ := (c : Thread nD τ).loc cc0_scratch0) (Finset.univ : Finset Slot) (fun j => (slotM sendM j.1 j.2).view.set) fs (fs (0, 0))
    (fun t _ t' _ h => slotSet_disjoint sendM t t' h)) $$ H
  icases H2 with ⟨%g, -, H⟩
  rw [slotSet_cover, View.set_whole]
  iexists g; iexact H
/-- The slots of the receive buffer put together again. -/
theorem join_recv (c : Dev nD) : (bigSep Finset.univ fun j : Slot => recvFree c j) ⊢ (iprop(∃ f, ((c : Thread nD τ).loc cc0_scratch1) ↦{fullShare} f) : sProp 𝕄) := by
  unfold recvFree recvPts
  iintro H
  ihave H1 := (BI.bigSep_exists_pi Finset.univ (fun (j : Slot) (f : Buf (Elt F) ((slotM recvM j.1 j.2).view.loc (c : Thread nD τ))) => ((slotM recvM j.1 j.2).view.loc (c : Thread nD τ) ↦[(slotM recvM j.1 j.2).view.set]{fullShare} f : sProp 𝕄))) $$ H
  icases H1 with ⟨%fs, H⟩
  ihave H2 := (pointsTo_biUnion_join (Ix := Unit) (Name := ℕ) (U := UU) (Lvl := ℕ) (Val := Elt F) (q := fullShare) (ℓ := (c : Thread nD τ).loc cc0_scratch1) (Finset.univ : Finset Slot) (fun j => (slotM recvM j.1 j.2).view.set) fs (fs (0, 0))
    (fun t _ t' _ h => slotSet_disjoint recvM t t' h)) $$ H
  icases H2 with ⟨%g, -, H⟩
  rw [slotSet_cover, View.set_whole]
  iexists g; iexact H

/-! ## The chunks of the result -/

/-- An index of the result is in chunk `k` when its row is one of the 64 from `64 * k`. -/
theorem mem_chunk (k : Fin 8) (i : S512x512.Idx) : i ∈ (rOut k).set ↔ 64 * k.val ≤ (i 0).val ∧ (i 0).val < 64 * k.val + 64 := by
  rw [Rect.mem_set_unit]
  constructor
  · intro h; exact h 0
  · rintro ⟨h1, h2⟩ a
    fin_cases a
    · show 64 * k.val ≤ (i 0).val ∧ (i 0).val < 64 * k.val + 64; omega
    · show 0 ≤ (i 1).val ∧ (i 1).val < 0 + 512
      have : (i 1).val < 512 := (i 1).isLt
      omega

/-- A row's chunk. -/
def chunkOf (i : S512x512.Idx) : Fin 8 := ⟨(i 0).val / 64, by have : (i 0).val < 512 := (i 0).isLt; omega⟩
/-- An index's place inside its chunk. -/
def inChunk (i : S512x512.Idx) : S64x512.Idx := fun a => match a with
  | ⟨0, _⟩ => (⟨(i 0).val % 64, Nat.mod_lt _ (by decide)⟩ : Fin 64)
  | ⟨1, _⟩ => (i 1 : Fin 512)

/-- The result on device `c`: each row in its chunk. -/
def outAt (c : Dev nD) : (cc0_stg3_0 : Ref sig .tc).ty.Contents (Elt F) := fun i => final m c (chunkOf i) (inChunk i)

/-- An index of the result is its place in its chunk, put back into the array. -/
theorem emb_inChunk (i : S512x512.Idx) : (rOut (chunkOf i)).emb (inChunk i) = i := by
  funext a
  apply Fin.ext
  fin_cases a
  · show 64 * ((i 0).val / 64) + 1 * ((i 0).val % 64) = (i 0).val; omega
  · show 0 + 1 * (i 1).val = (i 1).val; omega

/-- An index of the chunk just written holds the chunk's value. -/
theorem putOut_of_chunk (c : Dev nD) (k : Fin 8) (f) (i : S512x512.Idx) (h : chunkOf i = k) : putOut m c k f i = outAt m c i := by
  subst h
  unfold putOut outAt
  have := View.write_emb_of_mem (v := outM.access (rOut (chunkOf i))) (Val := Elt F) f (final m c (chunkOf i)) (M := Finset.univ) (x := inChunk i) (Finset.mem_univ _)
  have e : (outM.access (rOut (chunkOf i))).emb (inChunk i) = i := emb_inChunk i
  rw [e] at this
  exact this
/-- Any other index keeps its value. -/
theorem putOut_of_not_chunk (c : Dev nD) (k : Fin 8) (f) (i : S512x512.Idx) (h : chunkOf i ≠ k) : putOut m c k f i = f i := by
  unfold putOut
  refine View.write_of_not_mem (v := outM.access (rOut k)) (Val := Elt F) f (final m c k) Finset.univ ?_
  intro hi
  apply h
  have hi' : i ∈ (outM.view.slice (rOut k)).set := hi
  obtain ⟨x, hx⟩ := View.exists_of_mem_set_slice (v := outM.view) hi'
  have hm : i ∈ (rOut k).set := by
    rw [← hx]; exact (rOut k).idx_mem x
  rw [mem_chunk] at hm
  apply Fin.ext
  show (i 0).val / 64 = k.val
  omega

/-- After all eight chunks are written, in the order the kernel writes them, the buffer holds the result. -/
theorem putOut_all (c : Dev nD) (f) :
    putOut m c 7 (putOut m c 3 (putOut m c 6 (putOut m c 2 (putOut m c 5 (putOut m c 1 (putOut m c 4 (putOut m c 0 f))))))) = outAt m c := by
  funext i
  have step : ∀ (k : Fin 8) (g : (cc0_stg3_0 : Ref sig .tc).ty.Contents (Elt F)), (chunkOf i ≠ k → g i = outAt m c i) → putOut m c k g i = outAt m c i := fun k g hg => by
    by_cases h : chunkOf i = k
    · exact putOut_of_chunk m c k g i h
    · rw [putOut_of_not_chunk m c k g i h]; exact hg h
  refine step 7 _ fun h7 => step 3 _ fun h3 => step 6 _ fun h6 => step 2 _ fun h2 => step 5 _ fun h5 => step 1 _ fun h1 => step 4 _ fun h4 => step 0 _ fun h0 => ?_
  exfalso
  clear step
  generalize chunkOf i = q at *
  clear i
  have : ∀ q : Fin 8, ¬(q ≠ 7 ∧ q ≠ 3 ∧ q ≠ 6 ∧ q ≠ 2 ∧ q ≠ 5 ∧ q ≠ 1 ∧ q ≠ 4 ∧ q ≠ 0) := by decide
  exact this q ⟨h7, h3, h6, h2, h5, h1, h4, h0⟩

end Cert.TopTwo

end
-- ==== Proof.Body.lean ====
/-
# The body, from what a device starts with to what it ends with

The three passes over the chunks — store and send each, relay each, finish each — and around them the greeting, the
copy of the weights and the loads. Each pass applies the same lemma of `Steps` to every chunk in the kernel's order.
-/
module

public import proofs.«01_k».proof.Proof.Buffers

@[expose] public section

noncomputable section

namespace Cert.TopTwo

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A conjunction over the chunks, in the kernel's order. -/
theorem by_chunk (Φ : Fin 8 → sProp 𝕄) :
    bigSep Finset.univ Φ = iprop(Φ 0 ∗ Φ 4 ∗ Φ 1 ∗ Φ 5 ∗ Φ 2 ∗ Φ 6 ∗ Φ 3 ∗ Φ 7) :=
  bigSep_univ_eq_bigSepL [0, 4, 1, 5, 2, 6, 3, 7] (by decide) (by decide) Φ
/-- A conjunction over the slots, stage by stage. -/
theorem by_stage (Φ : Slot → sProp 𝕄) :
    bigSep Finset.univ Φ = iprop((bigSep Finset.univ fun k : Fin 8 => Φ (0, k)) ∗ bigSep Finset.univ fun k : Fin 8 => Φ (1, k)) := by
  rw [bigSep_univ_prod]
  exact bigSep_univ_eq_bigSepL [0, 1] (by decide) (by decide) (fun s : Fin 2 => bigSep Finset.univ fun k : Fin 8 => Φ (s, k))

/-- All relays: every chunk of stage 0 is taken and its sum sent on in stage 1. -/
theorem relays_sound (K' : Dev nD × All → ℕ) (c : Dev nD) (Kn : (Fin 8 → FVec F S64x512 .f32) → Body F) (Q : PUnit → sProp 𝕄) :
    iprop(records m K' ∗ levAts L lv ∗ (bigSep Finset.univ fun k : Fin 8 => iprop(flying c (0, k) ∗ ready c (1, k))) ∗ owesAny c (Oof c (order.map fun k => (1, k)))
        ∗ (iprop((bigSep Finset.univ fun k : Fin 8 => iprop(spent c (0, k) ∗ flying c (1, k))) ∗ owesAny c 0) -∗ WP c (Kn (both m c)) Q))
      ⊢ WP c (relay 0 (n2 c) (own m c 0) fun a0 => relay 4 (n1 c) (own m c 4) fun a4 =>
          relay 1 (n2 c) (own m c 1) fun a1 => relay 5 (n1 c) (own m c 5) fun a5 =>
          relay 2 (n2 c) (own m c 2) fun a2 => relay 6 (n1 c) (own m c 6) fun a6 =>
          relay 3 (n2 c) (own m c 3) fun a3 => relay 7 (n1 c) (own m c 7) fun a7 => Kn ![a0, a1, a2, a3, a4, a5, a6, a7]) Q := by
  rw [by_chunk, by_chunk]
  iintro ⟨#HR, #Hlev, ⟨⟨F0, R0⟩, ⟨F4, R4⟩, ⟨F1, R1⟩, ⟨F5, R5⟩, ⟨F2, R2⟩, ⟨F6, R6⟩, ⟨F3, R3⟩, ⟨F7, R7⟩⟩, HO, Hk⟩
  iapply (relay_sound m K' c 0 (n2 c) rfl [(1, 4), (1, 1), (1, 5), (1, 2), (1, 6), (1, 3), (1, 7)] (by decide) _ Q)
  isplitr; · iexact HR
  isplitr; · iexact Hlev
  isplitl [F0]; · iexact F0
  isplitl [R0]; · iexact R0
  isplitl [HO]; · iexact HO
  iintro ⟨S0, F0, HO⟩
  iapply (relay_sound m K' c 4 (n1 c) rfl [(1, 1), (1, 5), (1, 2), (1, 6), (1, 3), (1, 7)] (by decide) _ Q)
  isplitr; · iexact HR
  isplitr; · iexact Hlev
  isplitl [F4]; · iexact F4
  isplitl [R4]; · iexact R4
  isplitl [HO]; · iexact HO
  iintro ⟨S4, F4, HO⟩
  iapply (relay_sound m K' c 1 (n2 c) rfl [(1, 5), (1, 2), (1, 6), (1, 3), (1, 7)] (by decide) _ Q)
  isplitr; · iexact HR
  isplitr; · iexact Hlev
  isplitl [F1]; · iexact F1
  isplitl [R1]; · iexact R1
  isplitl [HO]; · iexact HO
  iintro ⟨S1, F1, HO⟩
  iapply (relay_sound m K' c 5 (n1 c) rfl [(1, 2), (1, 6), (1, 3), (1, 7)] (by decide) _ Q)
  isplitr; · iexact HR
  isplitr; · iexact Hlev
  isplitl [F5]; · iexact F5
  isplitl [R5]; · iexact R5
  isplitl [HO]; · iexact HO
  iintro ⟨S5, F5, HO⟩
  iapply (relay_sound m K' c 2 (n2 c) rfl [(1, 6), (1, 3), (1, 7)] (by decide) _ Q)
  isplitr; · iexact HR
  isplitr; · iexact Hlev
  isplitl [F2]; · iexact F2
  isplitl [R2]; · iexact R2
  isplitl [HO]; · iexact HO
  iintro ⟨S2, F2, HO⟩
  iapply (relay_sound m K' c 6 (n1 c) rfl [(1, 3), (1, 7)] (by decide) _ Q)
  isplitr; · iexact HR
  isplitr; · iexact Hlev
  isplitl [F6]; · iexact F6
  isplitl [R6]; · iexact R6
  isplitl [HO]; · iexact HO
  iintro ⟨S6, F6, HO⟩
  iapply (relay_sound m K' c 3 (n2 c) rfl [(1, 7)] (by decide) _ Q)
  isplitr; · iexact HR
  isplitr; · iexact Hlev
  isplitl [F3]; · iexact F3
  isplitl [R3]; · iexact R3
  isplitl [HO]; · iexact HO
  iintro ⟨S3, F3, HO⟩
  iapply (relay_sound m K' c 7 (n1 c) rfl [] (by decide) _ Q)
  isplitr; · iexact HR
  isplitr; · iexact Hlev
  isplitl [F7]; · iexact F7
  isplitl [R7]; · iexact R7
  isplitl [HO]; · iexact HO
  iintro ⟨S7, F7, HO⟩
  have e : (![both m c 0, both m c 1, both m c 2, both m c 3, both m c 4, both m c 5, both m c 6, both m c 7] : Fin 8 → FVec F S64x512 .f32) = both m c := by
    funext k; fin_cases k <;> rfl
  rw [e]
  iapply Hk
  isplitr [HO]
  · isplitl [S0 F0]
    · isplitl [S0]; · iexact S0
      iexact F0
    isplitl [S4 F4]
    · isplitl [S4]; · iexact S4
      iexact F4
    isplitl [S1 F1]
    · isplitl [S1]; · iexact S1
      iexact F1
    isplitl [S5 F5]
    · isplitl [S5]; · iexact S5
      iexact F5
    isplitl [S2 F2]
    · isplitl [S2]; · iexact S2
      iexact F2
    isplitl [S6 F6]
    · isplitl [S6]; · iexact S6
      iexact F6
    isplitl [S3 F3]
    · isplitl [S3]; · iexact S3
      iexact F3
    isplitl [S7]; · iexact S7
    iexact F7
  iexact HO

/-- All last steps: every chunk of stage 1 is taken and the result written. -/
theorem finishes_sound (K' : Dev nD × All → ℕ) (c : Dev nD) (f : (cc0_stg3_0 : Ref sig .tc).ty.Contents (Elt F)) (Q : PUnit → sProp 𝕄) :
    iprop(records m K' ∗ levAts L lv ∗ (bigSep Finset.univ fun k : Fin 8 => flying c (1, k)) ∗ outPts c f ∗ owesAny c 0
        ∗ (iprop((bigSep Finset.univ fun k : Fin 8 => spent c (1, k)) ∗ outPts c (outAt m c) ∗ owesAny c 0) -∗ Q ⟨⟩))
      ⊢ WP c (finish 0 (both m c 0) <| finish 4 (both m c 4) <| finish 1 (both m c 1) <| finish 5 (both m c 5) <|
          finish 2 (both m c 2) <| finish 6 (both m c 6) <| finish 3 (both m c 3) <| finish 7 (both m c 7) <| .ret ⟨⟩) Q := by
  rw [by_chunk, by_chunk]
  iintro ⟨#HR, #Hlev, ⟨F0, F4, F1, F5, F2, F6, F3, F7⟩, Hout, HO, Hk⟩
  iapply (finish_sound m K' c 0 _ _ Q)
  isplitr; · iexact HR
  isplitr; · iexact Hlev
  isplitl [F0]; · iexact F0
  isplitl [Hout]; · iexact Hout
  isplitl [HO]; · iexact HO
  iintro ⟨S0, Hout, HO⟩
  iapply (finish_sound m K' c 4 _ _ Q)
  isplitr; · iexact HR
  isplitr; · iexact Hlev
  isplitl [F4]; · iexact F4
  isplitl [Hout]; · iexact Hout
  isplitl [HO]; · iexact HO
  iintro ⟨S4, Hout, HO⟩
  iapply (finish_sound m K' c 1 _ _ Q)
  isplitr; · iexact HR
  isplitr; · iexact Hlev
  isplitl [F1]; · iexact F1
  isplitl [Hout]; · iexact Hout
  isplitl [HO]; · iexact HO
  iintro ⟨S1, Hout, HO⟩
  iapply (finish_sound m K' c 5 _ _ Q)
  isplitr; · iexact HR
  isplitr; · iexact Hlev
  isplitl [F5]; · iexact F5
  isplitl [Hout]; · iexact Hout
  isplitl [HO]; · iexact HO
  iintro ⟨S5, Hout, HO⟩
  iapply (finish_sound m K' c 2 _ _ Q)
  isplitr; · iexact HR
  isplitr; · iexact Hlev
  isplitl [F2]; · iexact F2
  isplitl [Hout]; · iexact Hout
  isplitl [HO]; · iexact HO
  iintro ⟨S2, Hout, HO⟩
  iapply (finish_sound m K' c 6 _ _ Q)
  isplitr; · iexact HR
  isplitr; · iexact Hlev
  isplitl [F6]; · iexact F6
  isplitl [Hout]; · iexact Hout
  isplitl [HO]; · iexact HO
  iintro ⟨S6, Hout, HO⟩
  iapply (finish_sound m K' c 3 _ _ Q)
  isplitr; · iexact HR
  isplitr; · iexact Hlev
  isplitl [F3]; · iexact F3
  isplitl [Hout]; · iexact Hout
  isplitl [HO]; · iexact HO
  iintro ⟨S3, Hout, HO⟩
  iapply (finish_sound m K' c 7 _ _ Q)
  isplitr; · iexact HR
  isplitr; · iexact Hlev
  isplitl [F7]; · iexact F7
  isplitl [Hout]; · iexact Hout
  isplitl [HO]; · iexact HO
  iintro ⟨S7, Hout, HO⟩
  rw [putOut_all]
  unfold WP
  rw [wp_ret]; imodintro
  iapply Hk
  isplitr [Hout HO]
  · isplitl [S0]; · iexact S0
    isplitl [S4]; · iexact S4
    isplitl [S1]; · iexact S1
    isplitl [S5]; · iexact S5
    isplitl [S2]; · iexact S2
    isplitl [S6]; · iexact S6
    isplitl [S3]; · iexact S3
    iexact S7
  isplitl [Hout]; · iexact Hout
  iexact HO

/-- The exchange: the relays, then the last steps. -/
theorem exchange_sound (K' : Dev nD × All → ℕ) (c : Dev nD) (f : (cc0_stg3_0 : Ref sig .tc).ty.Contents (Elt F)) (Q : PUnit → sProp 𝕄) :
    iprop(records m K' ∗ levAts L lv ∗ (bigSep Finset.univ fun k : Fin 8 => flying c (0, k)) ∗ (bigSep Finset.univ fun k : Fin 8 => ready c (1, k))
        ∗ owesAny c (Oof c (order.map fun k => (1, k))) ∗ outPts c f
        ∗ (iprop((bigSep Finset.univ fun j : Slot => spent c j) ∗ outPts c (outAt m c) ∗ owesAny c 0) -∗ Q ⟨⟩))
      ⊢ WP c (exchange c (own m c)) Q := by
  iintro ⟨#HR, #Hlev, HF, HG, HO, Hout, Hk⟩
  ihave HFG := (Entails.of_eq (bigSep_sep' Finset.univ (fun k : Fin 8 => (flying c (0, k) : sProp 𝕄)) (fun k => ready c (1, k))).symm) $$ [HF HG]
  · isplitl [HF]; · iexact HF
    iexact HG
  unfold exchange
  iapply (relays_sound m K' c (fun a => finish 0 (a 0) <| finish 4 (a 4) <| finish 1 (a 1) <| finish 5 (a 5) <|
          finish 2 (a 2) <| finish 6 (a 6) <| finish 3 (a 3) <| finish 7 (a 7) <| .ret ⟨⟩) Q)
  isplitr; · iexact HR
  isplitr; · iexact Hlev
  isplitl [HFG]; · iexact HFG
  isplitl [HO]; · iexact HO
  iintro ⟨HSF, HO⟩
  ihave HSF' := (Entails.of_eq (bigSep_sep' Finset.univ (fun k : Fin 8 => (spent c (0, k) : sProp 𝕄)) (fun k => flying c (1, k)))) $$ HSF
  icases HSF' with ⟨HS, HF⟩
  iapply (finishes_sound m K' c f Q)
  isplitr; · iexact HR
  isplitr; · iexact Hlev
  isplitl [HF]; · iexact HF
  isplitl [Hout]; · iexact Hout
  isplitl [HO]; · iexact HO
  iintro ⟨HS1, Hout, HO⟩
  iapply Hk
  isplitl [HS HS1]
  · rw [by_stage]
    isplitl [HS]; · iexact HS
    iexact HS1
  isplitl [Hout]; · iexact Hout
  iexact HO

/-! ## The greeting's payload -/

/-- What `ready` needs before the barrier: everything but the slot it will land in. -/
def early (c : Dev nD) (j : Slot) : sProp 𝕄 := iprop(sendFree c j ∗ tok c j ∗ await c j)

/-- Once the partner has offered its receive slot, everything a send needs is there. -/
theorem ready_of_early (c : Dev nD) (j : Slot) : iprop(early c j ∗ recvFree (peer c j) j) ⊢ (ready c j : sProp 𝕄) := by
  unfold early ready
  iintro ⟨⟨Hs, Ht, Hw⟩, Hd⟩
  isplitl [Hs]; · iexact Hs
  isplitl [Hd]; · iexact Hd
  isplitl [Ht]; · iexact Ht
  iexact Hw

/-- The slots split by the neighbour they go to. -/
theorem by_neighbour (Φ : Slot → sProp 𝕄) : bigSep Finset.univ Φ = iprop((bigSep (mine false) Φ) ∗ bigSep (mine true) Φ) := by
  have hd : Disjoint (mine false) (mine true) := by decide
  rw [show (Finset.univ : Finset Slot) = mine false ∪ mine true from by decide]
  exact bigSep_union hd

/-- The two neighbours' payloads: every slot this device will write. -/
theorem bar_slots (c : Dev nD) : iprop(barPay c false ∗ barPay c true) ⊢ (bigSep Finset.univ fun j : Slot => recvFree (peer c j) j : sProp 𝕄) := by
  have h (b : Bool) : (barPay c b : sProp 𝕄) ⊢ bigSep (mine b) fun j : Slot => recvFree (peer c j) j := by
    unfold barPay
    refine each fun j hj => Entails.of_eq ?_
    unfold peer
    rw [(Finset.mem_filter.mp hj).2]
  rw [by_neighbour]
  iintro ⟨H1, H2⟩
  isplitl [H1]
  · iapply (h false); iexact H1
  iapply (h true); iexact H2

/-- A device's receive slots are the two payloads it hands over. -/
theorem slots_bar (c : Dev nD) : (bigSep Finset.univ fun j : Slot => recvFree c j : sProp 𝕄) ⊢ iprop(barPay (pr c false) false ∗ barPay (pr c true) true) := by
  rw [by_neighbour]
  unfold barPay
  rw [pr_pr, pr_pr]

/-- The first pass: store chunk 0, wait for both neighbours, send it; then store and send the others; then the exchange. -/
theorem spread_sound (K' : Dev nD × All → ℕ) (c : Dev nD) (f : (cc0_stg3_0 : Ref sig .tc).ty.Contents (Elt F)) (Q : PUnit → sProp 𝕄) :
    iprop(records m K' ∗ levAts L lv ∗ (bigSep Finset.univ fun j : Slot => early c j) ∗ atPos ER (barCell c) 0 ∅ 0 ∗ cred (tallyAt (barCell c) () 2)
        ∗ owesAny c (Oof c allSlots) ∗ outPts c f
        ∗ (iprop((bigSep Finset.univ fun j : Slot => spent c j) ∗ semVal (barCell c) 0 ∗ outPts c (outAt m c) ∗ owesAny c 0) -∗ Q ⟨⟩))
      ⊢ WP c (spread c (own m c)) Q := by
  rw [by_stage (fun j => early c j), by_chunk]
  iintro ⟨#HR, #Hlev, ⟨⟨E0, E4, E1, E5, E2, E6, E3, E7⟩, HE⟩, Hat, Hcr, HO, Hout, Hk⟩
  unfold spread
  unfold early
  icases E0 with ⟨Hs, Ht, Hw⟩
  iapply (storeSlot_sound c (0, 0) (packed (own m c 0)) _ Q)
  isplitl [Hs]; · iexact Hs
  iintro Hs
  unfold owesAny
  icases HO with ⟨%W, HO⟩
  unfold WP
  iapply (Rounds.wp_wait_rest_token 𝒱₀ ER (sched m) (c : Thread nD τ) none (κ := K' (c, iBar)) (sm := .reg barS)
      (wpE_semWait_eq 𝒱₀ (c : Thread nD τ) none Set.univ) (Set.mem_univ _) () (O := Oof c allSlots) (W := W) (R := 0) (m := 0) (T := ∅)
      (by rw [expect_bar]; decide)) $$ [Hcr HO Hat]
  · isplitr; · iapply (records_inv m K' (c, iBar)); iexact HR
    isplitl [Hcr]; · iexact Hcr
    isplitl [HO]; · iexact HO
    isplitr
    · iapply (mayWait_slots c (.reg barS) 1 (by rw [role_bar]; exact le_rfl) allSlots (fun j _ => by omega)); iexact Hlev
    iexact Hat
  iintro ⟨HO, Hat, -, Hpay⟩
  ihave Hp := (Entails.of_eq (rest_bar m c)) $$ Hpay
  ihave Hd := (bar_slots c) $$ Hp
  ihave Hd' := (Entails.of_eq (by_stage (fun j : Slot => (recvFree (peer c j) j : sProp 𝕄)))) $$ Hd
  icases Hd' with ⟨Hd0, Hd1⟩
  ihave Hd0' := (Entails.of_eq (by_chunk (fun k : Fin 8 => (recvFree (peer c (0, k)) (0, k) : sProp 𝕄)))) $$ Hd0
  icases Hd0' with ⟨D0, D4, D1, D5, D2, D6, D3, D7⟩
  imod (Rounds.cell_close ER (sched m) (Set.mem_univ (K' (c, iBar))) (fun h => h) (R := 0 + 1) (duties_later m (kcell (c, iBar)))) $$ [Hat] with Hz
  · isplitr; · iapply (records_inv m K' (c, iBar)); iexact HR
    iexact Hat
  iapply (sendSlot_sound m K' c (0, 0) (n1 c) rfl ([(0, 4), (0, 1), (0, 5), (0, 2), (0, 6), (0, 3), (0, 7)] ++ order.map fun k => (1, k)) _ Q)
  isplitr; · iexact HR
  isplitl [Hs]; · rw [snt_zero]; iexact Hs
  isplitl [D0]; · iexact D0
  isplitl [Ht]; · iexact Ht
  isplitl [HO]; · unfold owesAny; iexists _; iexact HO
  iintro ⟨Hc, HO⟩
  iapply (first_sound m K' c 4 (n2 c) rfl ([(0, 1), (0, 5), (0, 2), (0, 6), (0, 3), (0, 7)] ++ order.map fun k => (1, k)) _ Q)
  isplitr; · iexact HR
  isplitl [E4 D4]
  · iapply (ready_of_early c (0, 4)); unfold early; isplitl [E4]; · iexact E4
    iexact D4
  isplitl [HO]; · iexact HO
  iintro ⟨F4, HO⟩
  iapply (first_sound m K' c 1 (n1 c) rfl ([(0, 5), (0, 2), (0, 6), (0, 3), (0, 7)] ++ order.map fun k => (1, k)) _ Q)
  isplitr; · iexact HR
  isplitl [E1 D1]
  · iapply (ready_of_early c (0, 1)); unfold early; isplitl [E1]; · iexact E1
    iexact D1
  isplitl [HO]; · iexact HO
  iintro ⟨F1, HO⟩
  iapply (first_sound m K' c 5 (n2 c) rfl ([(0, 2), (0, 6), (0, 3), (0, 7)] ++ order.map fun k => (1, k)) _ Q)
  isplitr; · iexact HR
  isplitl [E5 D5]
  · iapply (ready_of_early c (0, 5)); unfold early; isplitl [E5]; · iexact E5
    iexact D5
  isplitl [HO]; · iexact HO
  iintro ⟨F5, HO⟩
  iapply (first_sound m K' c 2 (n1 c) rfl ([(0, 6), (0, 3), (0, 7)] ++ order.map fun k => (1, k)) _ Q)
  isplitr; · iexact HR
  isplitl [E2 D2]
  · iapply (ready_of_early c (0, 2)); unfold early; isplitl [E2]; · iexact E2
    iexact D2
  isplitl [HO]; · iexact HO
  iintro ⟨F2, HO⟩
  iapply (first_sound m K' c 6 (n2 c) rfl ([(0, 3), (0, 7)] ++ order.map fun k => (1, k)) _ Q)
  isplitr; · iexact HR
  isplitl [E6 D6]
  · iapply (ready_of_early c (0, 6)); unfold early; isplitl [E6]; · iexact E6
    iexact D6
  isplitl [HO]; · iexact HO
  iintro ⟨F6, HO⟩
  iapply (first_sound m K' c 3 (n1 c) rfl ([(0, 7)] ++ order.map fun k => (1, k)) _ Q)
  isplitr; · iexact HR
  isplitl [E3 D3]
  · iapply (ready_of_early c (0, 3)); unfold early; isplitl [E3]; · iexact E3
    iexact D3
  isplitl [HO]; · iexact HO
  iintro ⟨F3, HO⟩
  iapply (first_sound m K' c 7 (n2 c) rfl ([] ++ order.map fun k => (1, k)) _ Q)
  isplitr; · iexact HR
  isplitl [E7 D7]
  · iapply (ready_of_early c (0, 7)); unfold early; isplitl [E7]; · iexact E7
    iexact D7
  isplitl [HO]; · iexact HO
  iintro ⟨F7, HO⟩
  iapply (exchange_sound m K' c f Q)
  isplitr; · iexact HR
  isplitr; · iexact Hlev
  isplitl [Hc Hw F4 F1 F5 F2 F6 F3 F7]
  · rw [by_chunk]
    isplitl [Hc Hw]
    · unfold flying
      isplitl [Hc]; · iexact Hc
      iexact Hw
    isplitl [F4]; · iexact F4
    isplitl [F1]; · iexact F1
    isplitl [F5]; · iexact F5
    isplitl [F2]; · iexact F2
    isplitl [F6]; · iexact F6
    isplitl [F3]; · iexact F3
    iexact F7
  isplitl [HE Hd1]
  · iapply (each (S := (Finset.univ : Finset (Fin 8))) fun k _ => ready_of_early c (1, k))
    iapply (Entails.of_eq (bigSep_sep' Finset.univ (fun k : Fin 8 => (early c (1, k) : sProp 𝕄)) (fun k => recvFree (peer c (1, k)) (1, k))).symm)
    unfold early
    isplitl [HE]; · iexact HE
    iexact Hd1
  isplitl [HO]; · iexact HO
  isplitl [Hout]; · iexact Hout
  iintro ⟨HS, Hout, HO⟩
  iapply Hk
  isplitl [HS]; · iexact HS
  isplitl [Hz]; · iexact Hz
  isplitl [Hout]; · iexact Hout
  unfold owesAny
  iexact HO

end Cert.TopTwo

end
-- ==== Proof.Run.lean ====
/-
# The whole program: the body obligation, the launch, and what a run leaves

The body obligation puts the greeting, the weights' copy and the loads in front of `spread_sound`. The launch hands every
device its cells' invariants, its positions, the tokens of the duties it pays and the credits it waits for. `run_main`: every
execution ends, with the result `outAt` on each device, the arguments unchanged and every counter at zero.
-/
module

public import proofs.«01_k».proof.Proof.Body
public import Idealize.ShloMosaic.Lib.Pipeline.CollectiveSegs
public import Idealize.ShloMosaic.Lib.Quiescent

@[expose] public section

noncomputable section

namespace Cert.TopTwo

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A conjunction over a device's own semaphores. -/
theorem by_own (Φ : Own → sProp 𝕄) :
    bigSep Finset.univ Φ = iprop(Φ (.inl ()) ∗ (bigSep Finset.univ fun j : Slot => Φ (.inr (.inl j))) ∗ bigSep Finset.univ fun j : Slot => Φ (.inr (.inr j))) := by
  have h1 := bigSep_univ_eq_bigSepL [()] (by decide) (by decide) (fun a : Unit => Φ (.inl a))
  rw [bigSepL_singleton] at h1
  rw [bigSep_univ_sum, bigSep_univ_sum, h1]
  rfl
/-- A conjunction over a device's cells. -/
theorem by_cell (Φ : All → sProp 𝕄) :
    bigSep Finset.univ Φ = iprop(Φ iBar ∗ Φ iW ∗ (bigSep Finset.univ fun j : Slot => Φ (iS j)) ∗ bigSep Finset.univ fun j : Slot => Φ (iR j)) := by
  have h1 := bigSep_univ_eq_bigSepL [()] (by decide) (by decide) (fun a : Unit => Φ (.inl a))
  rw [bigSepL_singleton] at h1
  rw [bigSep_univ_sum, h1, by_own]
  rfl

/-! ## What a device starts with and ends with -/

/-- The tokens of the duties device `c` pays: both neighbours' barriers, its weights' copy, both ends of every slot it sends. -/
def payToks (c : Dev nD) : sProp 𝕄 :=
  iprop(dutyTok ER (barCell (pr c false)) 0 false ∗ dutyTok ER (barCell (pr c true)) 0 true ∗ dutyTok ER (wCell c) 0 false ∗ bigSep Finset.univ fun j : Slot => tok c j)
/-- Its positions in all its cells, and those tokens. -/
def linear (c : Dev nD) : sProp 𝕄 := iprop((bigSep Finset.univ fun k : All => atPos ER (kcell (c, k)) 0 ∅ 0) ∗ payToks c)
/-- What the launch's global step makes for device `c`. -/
def G' (c : Dev nD) : sProp 𝕄 := iprop(∃ K, records m K ∗ linear c)
/-- The credits device `c` waits for. -/
def credits (c : Dev nD) : sProp 𝕄 := iprop(cred (tallyAt (barCell c) () 2) ∗ bigSep Finset.univ fun j : Slot => cred (tallyAt (recvCell c j) () N))
/-- The experts' weights as launched. -/
def arg3 (c : Dev nD) : sProp 𝕄 := iprop(((c : Thread nD τ).loc main_arg3) ↦{fullShare} m ((c : Thread nD τ).loc main_arg3))
/-- What device `c`'s body starts from, besides the buffers of the region. -/
def start (c : Dev nD) : sProp 𝕄 := iprop(G' m c ∗ credits c ∗ levAts L lv ∗ arg3 m c)

/-- A buffer of the region, at any contents. -/
def someBuf (c : Dev nD) (b : Ref sig .tc) : sProp 𝕄 := iprop(∃ f : Buf (Elt F) ((c : Thread nD τ).loc b), ((c : Thread nD τ).loc b) ↦{fullShare} f)

/-- At the start: the protocol's resources, and the buffers of the region at any contents. -/
def Φ₀ (c : Dev nD) : sProp 𝕄 := iprop(start m c ∗ someBuf c cc0_scratch0 ∗ someBuf c cc0_scratch1 ∗ someBuf c cc0_scratch2)
/-- At the end: the buffers back, every own counter and the barrier's at zero, the weights as launched. -/
def Φ₁ (c : Dev nD) : sProp 𝕄 :=
  iprop((someBuf c cc0_scratch0 ∗ someBuf c cc0_scratch1 ∗ someBuf c cc0_scratch2) ∗ (bigSep Finset.univ fun k : Own => semVal ((c : Thread nD τ), osem k) 0)
    ∗ semVal (barCell c) 0 ∗ arg3 m c)

/-- The pipeline's data: the windows' contents before and after the one step, what is owed, and the device's resources. -/
def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => rwstg m c
    | ⟨2, _⟩ => idxstg m c
    | ⟨3, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-- Owning a whole buffer at given contents. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at given contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## The body -/

/-- What the weights' copy leaves: the device's copy holding the weights, and the weights. -/
theorem copy_pay (c : Dev nD) (fw : Buf (Elt F) (ewM.view.loc (c : Thread nD τ))) :
    iprop((ewM.view.loc (c : Thread nD τ) ↦[ewM.view.set]{fullShare} (ewM.view.write (Elt F) fw (ewH.view.read (Elt F) (m ((c : Thread nD τ).loc main_arg3))) Finset.univ))
        ∗ (ewH.view.loc (c : Thread nD τ) ↦[ewH.view.set]{fullShare} m ((c : Thread nD τ).loc main_arg3))) ⊢ weights (F := F) m c := by
  have e1 : ewM.view.set = Finset.univ := View.set_whole _
  have e2 : ewH.view.set = Finset.univ := View.set_whole _
  have e3 : ewM.view.write (Elt F) fw (ewH.view.read (Elt F) (m ((c : Thread nD τ).loc main_arg3))) Finset.univ = ewstg m c :=
    View.write_whole_univ (Val := Elt F) cc0_scratch2 fw _
  rw [e1, e2, e3]
  exact BI.Entails.refl _

set_option maxHeartbeats 1000000 in
/-- The kernel's loads, the copy of the weights and the passes, from the staged inputs to the result. -/
theorem plan_sound (c : Dev nD) (K' : Dev nD × All → ℕ) (f : (cc0_stg3_0 : Ref sig .tc).ty.Contents (Elt F)) (Q : PUnit → sProp 𝕄) :
    iprop(records m K' ∗ levAts L lv ∗ linear c ∗ credits c ∗ arg3 m c ∗ someBuf c cc0_scratch0 ∗ someBuf c cc0_scratch1 ∗ someBuf c cc0_scratch2
        ∗ owesAny c (O₀ c)
        ∗ (((c : Thread nD τ).loc cc0_stg0_0) ↦{fullShare} xstg m c) ∗ (((c : Thread nD τ).loc cc0_stg1_0) ↦{fullShare} rwstg m c)
        ∗ (((c : Thread nD τ).loc cc0_stg2_0) ↦{fullShare} idxstg m c) ∗ outPts c f
        ∗ (iprop(Φ₁ m c ∗ owesAny c 0
            ∗ (((c : Thread nD τ).loc cc0_stg0_0) ↦{fullShare} xstg m c) ∗ (((c : Thread nD τ).loc cc0_stg1_0) ↦{fullShare} rwstg m c)
            ∗ (((c : Thread nD τ).loc cc0_stg2_0) ↦{fullShare} idxstg m c) ∗ outPts c (outAt m c)) -∗ Q ⟨⟩))
      ⊢ WP c plan Q := by
  unfold plan linear payToks credits arg3 owesAny someBuf
  rw [by_cell]
  unfold WP
  simp only [wp_deviceId]
  iintro ⟨#HR, #Hlev, ⟨⟨HaB, HaW, HaS, HaR⟩, HtB1, HtB2, HtW, Htok⟩, ⟨HcB, HcR⟩, Harg, Hsb, Hrb, ⟨%fw, Hwb⟩, ⟨%W, HO⟩, Hx, Hrw, Hidx, Hout, Hk⟩
  ihave Hss := (split_send c) $$ Hsb
  ihave Hrs := (split_recv c) $$ Hrb
  ihave Hbp := (slots_bar c) $$ Hrs
  icases Hbp with ⟨Hp1, Hp2⟩
  -- greet both neighbours
  iapply (Rounds.wp_signal 𝒱₀ ER (sched m) (c : Thread nD τ) none (dst := (pr c false : Thread nD τ)) (κ := K' (pr c false, iBar)) (r := 0)
      (d := false) (by rw [show ((pr c false : Thread nD τ), SemLoc.reg barS) = kcell (pr c false, iBar) from rfl, duties_at]; exact Finset.mem_univ _)
      ((amount_at m (pr c false) iBar false).trans (by decide)) () (O₁ c) rfl) $$ [HO HtB1 Hp1]
  · isplitr; · iapply (records_inv m K' (pr c false, iBar)); iexact HR
    isplitl [HO]; · iexact HO
    isplitl [HtB1]; · iexact HtB1
    isplitl [Hp1]
    · iapply (show barPay (pr c false) false ⊢ _ from Entails.of_eq (payload_at m (pr c false) iBar false).symm); iexact Hp1
    iapply (records_reached m K' (pr c false, iBar)); iexact HR
  iintro HO
  iapply (Rounds.wp_signal 𝒱₀ ER (sched m) (c : Thread nD τ) none (dst := (pr c true : Thread nD τ)) (κ := K' (pr c true, iBar)) (r := 0)
      (d := true) (by rw [show ((pr c true : Thread nD τ), SemLoc.reg barS) = kcell (pr c true, iBar) from rfl, duties_at]; exact Finset.mem_univ _)
      ((amount_at m (pr c true) iBar true).trans (by decide)) () (Oof c allSlots) rfl) $$ [HO HtB2 Hp2]
  · isplitr; · iapply (records_inv m K' (pr c true, iBar)); iexact HR
    isplitl [HO]; · iexact HO
    isplitl [HtB2]; · iexact HtB2
    isplitl [Hp2]
    · iapply (show barPay (pr c true) true ⊢ _ from Entails.of_eq (payload_at m (pr c true) iBar true).symm); iexact Hp2
    iapply (records_reached m K' (pr c true, iBar)); iexact HR
  iintro HO
  -- start the copy of the weights
  iapply (Rounds.wp_copy_pointsTo 𝒱₀ ER (sched m) (c : Thread nD τ) none (κ := K' (c, iW)) (r := 0) (d := false) (src := ewH) (dst := ewM)
      (q := fullShare) (fs := m ((c : Thread nD τ).loc main_arg3)) (fd := fw)
      (by rw [show ((c : Thread nD τ), SemLoc.dma wSem) = kcell (c, iW) from rfl, duties_at]; exact Finset.mem_singleton_self _)
      () NW rfl (amount_at m c iW false)
      ((copy_pay m c fw).trans (Entails.of_eq (payload_at m c iW false).symm))) $$ [Harg Hwb HtW]
  · isplitr; · iapply (records_inv m K' (c, iW)); iexact HR
    isplitl [Harg]; · rw [show ewH.view.set = Finset.univ from View.set_whole _]; iexact Harg
    isplitl [Hwb]; · rw [show ewM.view.set = Finset.univ from View.set_whole _]; iexact Hwb
    isplitl [HtW]; · iexact HtW
    iapply (records_reached m K' (c, iW)); iexact HR
  iintro HcW
  -- the loads
  iapply (wp_load 𝒱₀ (c : Thread nD τ) none Set.univ (m := xM) (Finset.subset_univ _)) $$ Hx; iintro Hx
  iapply (wp_load 𝒱₀ (c : Thread nD τ) none Set.univ (m := rwM) (Finset.subset_univ _)) $$ Hrw; iintro Hrw
  iapply (wp_load 𝒱₀ (c : Thread nD τ) none Set.univ (m := idxM) (Finset.subset_univ _)) $$ Hidx; iintro Hidx
  iapply (wp_load 𝒱₀ (c : Thread nD τ) none Set.univ (m := idxM) (Finset.subset_univ _)) $$ Hidx; iintro Hidx
  -- wait for the weights
  iapply (Rounds.wp_wait_rest_token 𝒱₀ ER (sched m) (c : Thread nD τ) none (κ := K' (c, iW)) (sm := .dma wSem)
      (wpE_waitDma2_eq 𝒱₀ (c : Thread nD τ) none Set.univ) (Set.mem_univ _) () (O := Oof c allSlots) (W := W) (R := 0) (m := 0) (T := ∅)
      (by rw [Nat.zero_add]; exact (expect_one m c iW rfl).symm)) $$ [HcW HO HaW]
  · isplitr; · iapply (records_inv m K' (c, iW)); iexact HR
    isplitl [HcW]; · iexact HcW
    isplitl [HO]; · iexact HO
    isplitr
    · iapply (mayWait_slots c (.dma wSem) 0 (by rw [role_w]; exact le_rfl) allSlots (fun j _ => by omega)); iexact Hlev
    iexact HaW
  iintro ⟨HO, HaW, -, Hpay⟩
  ihave Hww := (show _ ⊢ weights m c from Entails.of_eq (rest_one m c iW rfl)) $$ Hpay
  unfold weights
  icases Hww with ⟨Hwb, Harg⟩
  imod (Rounds.cell_close ER (sched m) (Set.mem_univ (K' (c, iW))) (fun h => h) (R := 0 + 1) (duties_later m (kcell (c, iW)))) $$ [HaW] with HzW
  · isplitr; · iapply (records_inv m K' (c, iW)); iexact HR
    iexact HaW
  iapply (wp_load 𝒱₀ (c : Thread nD τ) none Set.univ (m := ewM) (Finset.subset_univ _)) $$ Hwb; iintro Hwb
  iapply (wp_load 𝒱₀ (c : Thread nD τ) none Set.univ (m := ewM) (Finset.subset_univ _)) $$ Hwb; iintro Hwb
  -- the passes
  iapply (spread_sound m K' c f Q)
  isplitr; · iexact HR
  isplitr; · iexact Hlev
  isplitl [Hss Htok HaS HaR HcR]
  · unfold early await
    simp only [bigSep_sep']
    isplitl [Hss]; · iexact Hss
    isplitl [Htok]; · iexact Htok
    isplitl [HaS]; · iexact HaS
    isplitl [HaR]; · iexact HaR
    iexact HcR
  isplitl [HaB]
  · iexact HaB
  isplitl [HcB]; · iexact HcB
  isplitl [HO]; · unfold owesAny; iexists _; iexact HO
  isplitl [Hout]; · iexact Hout
  iintro ⟨HS, HzB, Hout, HO⟩
  iapply Hk
  unfold spent closed
  ihave HS' := (Entails.of_eq (bigSep_sep' Finset.univ (fun j : Slot => (sendFree c j : sProp 𝕄)) (fun j => iprop(recvFree c j ∗ semVal (sendCell c j) 0 ∗ semVal (recvCell c j) 0)))) $$ HS
  icases HS' with ⟨Hss, HS⟩
  ihave HS' := (Entails.of_eq (bigSep_sep' Finset.univ (fun j : Slot => (recvFree c j : sProp 𝕄)) (fun j => iprop(semVal (sendCell c j) 0 ∗ semVal (recvCell c j) 0)))) $$ HS
  icases HS' with ⟨Hrs, HS⟩
  ihave HS' := (Entails.of_eq (bigSep_sep' Finset.univ (fun j : Slot => (semVal (sendCell c j) 0 : sProp 𝕄)) (fun j => semVal (recvCell c j) 0))) $$ HS
  icases HS' with ⟨HzS, HzR⟩
  unfold Φ₁ someBuf arg3
  isplitl [Hss Hrs Hwb Harg HzS HzR HzW HzB]
  · isplitl [Hss Hrs Hwb]
    · isplitl [Hss]; · iapply (join_send c); iexact Hss
      isplitl [Hrs]; · iapply (join_recv c); iexact Hrs
      iexists _; iexact Hwb
    isplitl [HzS HzR HzW]
    · rw [by_own]
      isplitl [HzW]; · iexact HzW
      isplitl [HzS]; · iexact HzS
      iexact HzR
    isplitl [HzB]; · iexact HzB
    iexact Harg
  isplitl [HO]; · unfold owesAny; iexact HO
  isplitl [Hx]; · iexact Hx
  isplitl [Hrw]; · iexact Hrw
  isplitl [Hidx]; · iexact Hidx
  iexact Hout

end Cert.TopTwo

end
-- ==== Proof.Whole.lean ====
/-
# The launch

Every device is handed its cells' invariants, its positions, the tokens of the duties it pays (each minted at the cell it
belongs to and dealt along the neighbour relation) and the credits it waits for. `run_main`: every execution ends, with the
result `outAt` on each device, the arguments unchanged and every counter at zero.
-/
module

public import proofs.«01_k».proof.Proof.Run

@[expose] public section

noncomputable section

namespace Cert.TopTwo

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body obligation -/

/-- What the body leaves: the end's resources and the staging buffers, the result's holding the chunks. -/
def bodyPost (c : Dev nD) : sProp 𝕄 :=
  iprop(Φ₁ m c ∗ (dats m 0 c).owesAt () t0_0.succ ∗ stg c cc0_stg0_0 (xstg m c) ∗ stg c cc0_stg1_0 (rwstg m c)
    ∗ stg c cc0_stg2_0 (idxstg m c) ∗ stg c cc0_stg3_0 (outAt m c))
/-- What the body starts from: the start's resources and the staging buffers. -/
def bodyPre (c : Dev nD) : sProp 𝕄 :=
  iprop(Φ₀ m c ∗ (dats m 0 c).owesAt () t0_0.castSucc
    ∗ (∃ d, stg c cc0_stg0_0 ((dats m 0 c).before (0 : Fin 4) t0_0 d))
    ∗ (∃ d, stg c cc0_stg1_0 ((dats m 0 c).before (1 : Fin 4) t0_0 d))
    ∗ (∃ d, stg c cc0_stg2_0 ((dats m 0 c).before (2 : Fin 4) t0_0 d))
    ∗ (∃ d, stg c cc0_stg3_0 ((dats m 0 c).before (3 : Fin 4) t0_0 d)))

/-- The tokens are staged before the body. -/
theorem before_x (c : Dev nD) (d) : (dats m 0 c).before (0 : Fin 4) t0_0 d = xstg m c := by
  unfold Dat.before; rw [if_pos (fetch0_0 t0_0)]; rfl
/-- The router's weights are staged before the body. -/
theorem before_rw (c : Dev nD) (d) : (dats m 0 c).before (1 : Fin 4) t0_0 d = rwstg m c := by
  unfold Dat.before; rw [if_pos (fetch0_1 t0_0)]; rfl
/-- The routing is staged before the body. -/
theorem before_idx (c : Dev nD) (d) : (dats m 0 c).before (2 : Fin 4) t0_0 d = idxstg m c := by
  unfold Dat.before; rw [if_pos (fetch0_2 t0_0)]; rfl

/-- The body takes the one to the other, without a fault. -/
theorem body_sound (c : Dev nD) : bodyPre m c ⊢ wp frame (wpE (defs₀ (F := F)) 𝒱₀ c none) Set.univ (bodyAt0 t0_0) (fun _ => bodyPost m c) := by
  rw [body_eq_plan]
  unfold bodyPre Φ₀ start G'
  iintro ⟨⟨⟨⟨%K', HR, Hlin⟩, Hcr, Hlev, Harg⟩, H0, H1, H2⟩, Ho, ⟨%d0, %g0, %hg0, Hx⟩, ⟨%d1, %g1, %hg1, Hrw⟩, ⟨%d2, %g2, %hg2, Hidx⟩, ⟨%d3, %g3, %hg3, Hout⟩⟩
  rw [before_x] at hg0; rw [before_rw] at hg1; rw [before_idx] at hg2
  subst hg0 hg1 hg2
  unfold Dat.owesAt Pipeline.owesWithin
  icases Ho with ⟨%W, %hW, HO⟩
  rw [show (dats m 0 c).owed t0_0.castSucc = O₀ c from rfl]
  iapply (plan_sound m c K' g3 (fun _ => bodyPost m c))
  isplitl [HR]; · iexact HR
  isplitl [Hlev]; · iexact Hlev
  isplitl [Hlin]; · iexact Hlin
  isplitl [Hcr]; · iexact Hcr
  isplitl [Harg]; · iexact Harg
  isplitl [H0]; · iexact H0
  isplitl [H1]; · iexact H1
  isplitl [H2]; · iexact H2
  isplitl [HO]; · unfold owesAny; iexists W; iexact HO
  isplitl [Hx]; · iexact Hx
  isplitl [Hrw]; · iexact Hrw
  isplitl [Hidx]; · iexact Hidx
  isplitl [Hout]; · unfold outPts; iexact Hout
  iintro ⟨HΦ, HO, Hx, Hrw, Hidx, Hout⟩
  unfold bodyPost Dat.owesAt Pipeline.owesWithin owesAny outPts
  rw [show (dats m 0 c).owed t0_0.succ = 0 from rfl]
  icases HO with ⟨%W', HO⟩
  isplitl [HΦ]; · iexact HΦ
  isplitl [HO]
  · iexists W'
    isplitr; · ipureintro; exact fun _ _ => Or.inl trivial
    iexact HO
  isplitl [Hx]
  · iexists _; isplitr; · (ipureintro; rfl)
    iexact Hx
  isplitl [Hrw]
  · iexists _; isplitr; · (ipureintro; rfl)
    iexact Hrw
  isplitl [Hidx]
  · iexists _; isplitr; · (ipureintro; rfl)
    iexact Hidx
  iexists _; isplitr; · (ipureintro; rfl)
  iexact Hout

set_option maxRecDepth 16000 in
/-- That is what the pipeline asks of the body. -/
theorem body_obligation (c : Dev nD) : BodyObligation (dats (F := F) m 0 c) (defs₀ (F := F)) 𝒱₀ () Set.univ := fun t => by
  rw [fin_N0 t]
  rw [bigSep_W0, bigSep_W0]
  simp only [owns_whole_eq]
  show bodyPre m c ⊢ wp frame (wpE (defs₀ (F := F)) 𝒱₀ c none) Set.univ (bodyAt0 t0_0) (fun _ => bodyPost m c)
  exact body_sound m c

/-! ## The cells and the tokens minted for them -/

/-- The kernel's own semaphores: each scoped, all distinct, none a window's. -/
theorem ownSemFacts : Pipeline.OwnSemFacts cfg0.spec osem where
  isScoped := by rintro (_ | ⟨b, k⟩ | ⟨b, k⟩) <;> [rfl; (revert b k; decide); (revert b k; decide)]
  inj o o' h := by
    have h' : csem (.inr o) = csem (.inr o') := h
    exact Sum.inr.inj (csem_injective h')
  disj := by
    rintro (u | ⟨b, k⟩ | ⟨b, k⟩) w s
    · revert u; fin_cases w <;> fin_cases s <;> decide
    · revert b k; fin_cases w <;> fin_cases s <;> decide
    · revert b k; fin_cases w <;> fin_cases s <;> decide

/-- Every window is held whole. -/
theorem share_eq (c : Dev nD) (w : Fin cfg0.W) : (dats m 0 c).share w = fullShare := by unfold Dat.share; split <;> rfl

/-- Different names are different devices' or different cells. -/
theorem kcell_injective : Function.Injective (kcell : Dev nD × All → GSem nD τ sig) := by
  rintro ⟨c, k⟩ ⟨c', k'⟩ h
  have h1 : c = c' := by have := congrArg (fun g : GSem nD τ sig => g.1.1) h; exact this
  have h2 : csem k = csem k' := congrArg Prod.snd h
  rw [h1, csem_injective h2]
/-- Every cell of every device. -/
def allCells : Finset (GSem nD τ sig) := Finset.univ.map ⟨kcell, kcell_injective⟩

/-- The duties of a device's cells: two of its barrier's, one of each own cell's. -/
abbrev Duty : Type := Bool ⊕ Own
/-- A duty, as its cell, its round and its name there. -/
abbrev tokOf (cd : Dev nD × Duty) : GSem nD τ sig × ℕ × Bool := match cd.2 with
  | .inl b => (barCell cd.1, 0, b)
  | .inr o => (kcell (cd.1, .inr o), 0, false)
/-- Different duties have different tokens. -/
theorem tokOf_injective : Function.Injective (tokOf : Dev nD × Duty → GSem nD τ sig × ℕ × Bool) := by
  rintro ⟨c, b | o⟩ ⟨c', b' | o'⟩ h
  · have h1 : kcell (c, iBar) = kcell (c', iBar) := congrArg Prod.fst h
    have h2 : b = b' := congrArg (fun x : GSem nD τ sig × ℕ × Bool => x.2.2) h
    have h3 : (c, iBar) = (c', iBar) := kcell_injective h1
    rw [h2, show c = c' from congrArg Prod.fst h3]
  · have h1 : kcell (c, iBar) = kcell (c', .inr o') := congrArg Prod.fst h
    have h3 : (c, iBar) = (c', (.inr o' : All)) := kcell_injective h1
    exact absurd (congrArg Prod.snd h3) (by intro h; cases h)
  · have h1 : kcell (c, .inr o) = kcell (c', iBar) := congrArg Prod.fst h
    have h3 : (c, (.inr o : All)) = (c', iBar) := kcell_injective h1
    exact absurd (congrArg Prod.snd h3) (by intro h; cases h)
  · have h1 : kcell (c, .inr o) = kcell (c', .inr o') := congrArg Prod.fst h
    have h3 : (c, (.inr o : All)) = (c', .inr o') := kcell_injective h1
    rw [show c = c' from congrArg Prod.fst h3, show o = o' from Sum.inr.inj (congrArg Prod.snd h3)]
/-- Every duty's token. -/
def allToks : Finset (GSem nD τ sig × ℕ × Bool) := Finset.univ.map ⟨tokOf, tokOf_injective⟩

/-- The bookkeeping at launch. -/
def u₀ : UU := (initOf (Pipeline.cells cfgs cellOf_inj) (Pipeline.launchToks cfgs cellOf_inj), initOf allCells allToks)

/-- The duty tokens of device `c`'s own cells. -/
def toks (c : Dev nD) : sProp 𝕄 :=
  iprop((dutyTok ER (barCell c) 0 false ∗ dutyTok ER (barCell c) 0 true) ∗ dutyTok ER (wCell c) 0 false
    ∗ (bigSep Finset.univ fun j : Slot => dutyTok ER (sendCell c j) 0 false) ∗ bigSep Finset.univ fun j : Slot => dutyTok ER (recvCell c j) 0 false)

/-- What the launch element deals device `c`. -/
def G (c : Dev nD) : sProp 𝕄 :=
  iprop((bigSep Finset.univ fun k : All => roundState ER (sched m) (kcell (c, k)) 0)
    ∗ (bigSep Finset.univ fun k : All => iprop(atPos ER (kcell (c, k)) 0 ∅ 0 ∗ reached ER (kcell (c, k)) 0)) ∗ toks c)

/-- A device's tokens, gathered by cell. -/
theorem toks_eq (c : Dev nD) : (bigSep Finset.univ fun d : Duty => (dutyTok ER (tokOf (c, d)).1 (tokOf (c, d)).2.1 (tokOf (c, d)).2.2 : sProp 𝕄)) = toks c := by
  have h1 := bigSep_univ_eq_bigSepL [false, true] (by decide) (by decide) (fun b : Bool => (dutyTok ER (barCell c) 0 b : sProp 𝕄))
  rw [bigSepL_cons_cons, bigSepL_singleton] at h1
  rw [bigSep_univ_sum]
  show BI.sep (bigSep Finset.univ fun b : Bool => dutyTok ER (barCell c) 0 b) (bigSep Finset.univ fun o : Own => dutyTok ER (kcell (c, .inr o)) 0 false) = _
  rw [h1, by_own]
  rfl

/-- The bookkeeping at launch deals every device its cells' states, positions and tokens. -/
theorem fund_cells : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : All => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => toks_eq c
  iintro HX
  imod (Rounds.fund ER (sched m) allCells allToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The launch's one unscoped semaphore is the barrier's. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- At launch every cell of a device counts zero. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : All => semVal (kcell (c, k)) 0 : sProp 𝕄) := by
  rw [unscopedSems0_eq, by_cell]
  unfold Pipeline.ownSems0
  rw [by_own]
  iintro ⟨HS, HB⟩
  isplitl [HB]; · iexact HB
  iexact HS

/-- A device's cells get their invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : All => semVal (kcell (c, k)) 0) ∗ bigSep Finset.univ fun k : All => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## Dealing the tokens -/

/-- Every device and slot exchanged for the slot's neighbour and the same slot. -/
def swapAll : Dev nD × Slot ≃ Dev nD × Slot where
  toFun x := (peer x.1 x.2, x.2)
  invFun x := (peer x.1 x.2, x.2)
  left_inv x := Prod.ext (peer_peer x.1 x.2) rfl
  right_inv x := Prod.ext (peer_peer x.1 x.2) rfl

/-- The receive tokens, dealt to the devices that send into the cells. -/
theorem recv_toks_around : (bigSep Finset.univ fun c : Dev nD => bigSep Finset.univ fun j : Slot => (dutyTok ER (recvCell c j) 0 false : sProp 𝕄))
    = bigSep Finset.univ fun c : Dev nD => bigSep Finset.univ fun j : Slot => dutyTok ER (recvCell (peer c j) j) 0 false := by
  have h1 := bigSep_univ_prod (fun x : Dev nD × Slot => (dutyTok ER (recvCell x.1 x.2) 0 false : sProp 𝕄))
  have h2 := bigSep_univ_prod (fun x : Dev nD × Slot => (dutyTok ER (recvCell (peer x.1 x.2) x.2) 0 false : sProp 𝕄))
  rw [← h1, ← h2]
  exact bigSep_univ_equiv swapAll _

/-- The tokens dealt: each to the device that pays the duty. -/
theorem toks_around : (bigSep Finset.univ fun c : Dev nD => (toks c : sProp 𝕄)) ⊢ bigSep Finset.univ fun c : Dev nD => payToks c := by
  unfold toks payToks tok
  simp only [bigSep_sep']
  rw [bigSep_univ_equiv (swap false) (fun c : Dev nD => (dutyTok ER (barCell c) 0 false : sProp 𝕄)),
    bigSep_univ_equiv (swap true) (fun c : Dev nD => (dutyTok ER (barCell c) 0 true : sProp 𝕄)), recv_toks_around]
  iintro ⟨⟨H1, H2⟩, H3, H4, H5⟩
  isplitl [H1]; · iexact H1
  isplitl [H2]; · iexact H2
  isplitl [H3]; · iexact H3
  isplitl [H4]; · iexact H4
  iexact H5

/-- A fact that can be used any number of times may be used for each member of a family. -/
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The records and a device's own tokens are what its body starts from. -/
theorem ghost_intro (K : Dev nD × All → ℕ) (c : Dev nD) : iprop(records m K ∗ linear c) ⊢ G' m c := by
  unfold G'
  iintro ⟨HR, HL⟩
  iexists K
  isplitl [HR]; · iexact HR
  iexact HL

/-- From every device's cells to every device's start: names chosen, records shared, tokens dealt. -/
theorem regroup :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × All => iprop(∃ κ : ℕ, cellInv ER (sched m) κ (kcell ck))),
    bigSep_congr (s := Finset.univ) (fun (c : Dev nD) _ => bigSep_sep' Finset.univ (fun k : All => (atPos ER (kcell (c, k)) 0 ∅ 0 : sProp 𝕄)) (fun k => reached ER (kcell (c, k)) 0)),
    bigSep_sep', ← bigSep_univ_prod (fun ck : Dev nD × All => (reached ER (kcell ck) 0 : sProp 𝕄))]
  iintro ⟨HI, ⟨Hat, #HR⟩, Htok⟩
  ihave HK := (BI.bigSep_exists_pi Finset.univ (fun (ck : Dev nD × All) (κ : ℕ) => (cellInv ER (sched m) κ (kcell ck) : sProp 𝕄))) $$ HI
  icases HK with ⟨%K, #HI⟩
  ihave Htk := (toks_around (F := F)) $$ Htok
  iapply (with_persistent (R := records m K) fun c _ => ghost_intro m K c)
  isplitr
  · unfold records; isplitl; · iexact HI
    iexact HR
  · iapply ((Entails.of_eq (bigSep_sep' Finset.univ (fun c : Dev nD => bigSep Finset.univ fun k : All => (atPos ER (kcell (c, k)) 0 ∅ 0 : sProp 𝕄)) payToks).symm).trans
      (bigSep_mono fun c _ => show _ ⊢ linear c from BI.Entails.refl _))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- Two cells are the same when device and name are. -/
theorem cell_eq_iff {a b : Dev nD} {k k' : All} : Iff (kcell (a, k) = kcell (b, k')) (a = b ∧ k = k') :=
  ⟨fun h => ⟨congrArg Prod.fst (kcell_injective h), congrArg Prod.snd (kcell_injective h)⟩, fun h => by rw [h.1, h.2]⟩

/-- Receive cells of different slots differ. -/
theorem iR_inj {j j' : Slot} (h : iR j = iR j') : j = j' := Sum.inr.inj (Sum.inr.inj (Sum.inr.inj h))

/-- What device `d` owes the receive cell of slot `j` of device `c`, with the slots `l` still to send. -/
theorem Oof_recv (d c : Dev nD) (j : Slot) (l : List Slot) (hl : l.Nodup) : Oof d l (recvCell c j) () = if j ∈ l ∧ d = peer c j then N else 0 := by
  induction l with
  | nil => rw [if_neg (fun h => List.not_mem_nil h.1)]; rfl
  | cons i l ih =>
    unfold Oof
    rw [Pi.add_apply, Finsupp.add_apply, ih (List.nodup_cons.mp hl).2, tallyAt_apply]
    by_cases hji : j = i
    · subst hji
      rw [if_neg (fun h => (List.nodup_cons.mp hl).1 h.1), Nat.zero_add]
      by_cases hd : d = peer c j
      · rw [if_pos ⟨by rw [hd, peer_peer], rfl⟩, if_pos ⟨List.mem_cons_self, hd⟩]
      · rw [if_neg, if_neg (fun h => hd h.2)]
        rintro ⟨h, -⟩
        have h' : kcell (c, iR j) = kcell (peer d j, iR j) := h
        exact hd (by rw [(cell_eq_iff.mp h').1, peer_peer])
    · rw [if_neg (c := recvCell c j = recvCell (peer d i) i ∧ () = ()), Nat.add_zero]
      · by_cases hd : j ∈ l ∧ d = peer c j
        · rw [if_pos hd, if_pos ⟨List.mem_cons_of_mem _ hd.1, hd.2⟩]
        · rw [if_neg hd, if_neg]
          rintro ⟨h1, h2⟩
          exact hd ⟨(List.mem_cons.mp h1).resolve_left hji, h2⟩
      · rintro ⟨h, -⟩
        have h' : kcell (c, iR j) = kcell (peer d i, iR i) := h
        exact hji (iR_inj (cell_eq_iff.mp h').2)

/-- No slot's copy owes a barrier. -/
theorem Oof_bar (d c : Dev nD) (l : List Slot) : Oof d l (barCell c) () = 0 := by
  by_contra h
  obtain ⟨j, -, e⟩ := Oof_pos (Nat.pos_of_ne_zero h)
  have h' : kcell (c, iBar) = kcell (peer d j, iR j) := e
  exact absurd (cell_eq_iff.mp h').2 (by intro h; cases h)

/-- A unit owed to a neighbour's barrier, seen from the barrier. -/
theorem bar_tally (d c : Dev nD) (b : Bool) : tallyAt (barCell (pr d b)) () 1 (barCell c) () = if d = pr c b then 1 else 0 := by
  rw [tallyAt_apply]
  by_cases h : d = pr c b
  · subst h; rw [pr_pr, if_pos ⟨rfl, rfl⟩, if_pos rfl]
  · rw [if_neg, if_neg h]
    rintro ⟨h1, -⟩
    have h' : kcell (c, iBar) = kcell (pr d b, iBar) := h1
    exact h (by rw [(cell_eq_iff.mp h').1, pr_pr])

/-- A unit owed to a barrier is not owed to a receive cell. -/
theorem recv_tally (d c : Dev nD) (j : Slot) : tallyAt (barCell d) () 1 (recvCell c j) () = 0 := by
  rw [tallyAt_apply, if_neg]
  rintro ⟨h1, -⟩
  have h' : kcell (c, iR j) = kcell (d, iBar) := h1
  exact absurd (cell_eq_iff.mp h').2 (by intro h; cases h)

/-- Every slot is sent once. -/
theorem allSlots_nodup : allSlots.Nodup := by decide
/-- Every slot is sent. -/
theorem mem_allSlots (j : Slot) : j ∈ allSlots := by revert j; decide

/-- What device `d` owes the barrier of `c`. -/
theorem owed_bar (d c : Dev nD) : O₀ d (barCell c) () = (if d = pr c true then 1 else 0) + (if d = pr c false then 1 else 0) := by
  unfold O₀ O₁
  rw [Pi.add_apply, Finsupp.add_apply, Pi.add_apply, Finsupp.add_apply, Oof_bar, bar_tally, bar_tally, Nat.zero_add]

/-- What device `d` owes the receive cell of slot `j` of `c`. -/
theorem owed_recv (d c : Dev nD) (j : Slot) : O₀ d (recvCell c j) () = if d = peer c j then N else 0 := by
  unfold O₀ O₁
  rw [Pi.add_apply, Finsupp.add_apply, Pi.add_apply, Finsupp.add_apply, Oof_recv d c j _ allSlots_nodup, recv_tally, recv_tally, Nat.add_zero]
  by_cases h : d = peer c j
  · rw [if_pos ⟨mem_allSlots j, h⟩, if_pos h]
  · rw [if_neg (fun h' => h h'.2), if_neg h]

/-- All devices together owe a barrier two units. -/
theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (pr c true) fun _ => 1, Finset.sum_ite_eq' Finset.univ (pr c false) fun _ => 1, if_pos (Finset.mem_univ _), if_pos (Finset.mem_univ _)]

/-- All devices together owe a receive cell one slot's amount. -/
theorem launch_recv (c : Dev nD) (j : Slot) :
    tallyOn (recvCell c j) (launchCredit (Pipeline.owing O₀) 0 (recvCell c j)) = (tallyAt (recvCell c j) () N : CellTallies nD τ sig Unit) := by
  unfold tallyAt; refine congrArg _ (Finsupp.ext fun u => ?_); cases u
  rw [Pipeline.launchCredit_owing, Finsupp.single_eq_same, Finset.sum_congr rfl fun d _ => owed_recv d c j, Finset.sum_ite_eq' Finset.univ (peer c j) fun _ => N,
    if_pos (Finset.mem_univ _)]

/-- The cells credits are waited at. -/
abbrev credOf : Unit ⊕ Slot → SemLoc sig
  | .inl _ => csem iBar
  | .inr j => csem (iR j)
/-- The cells credits are waited at differ. -/
theorem credOf_injective : Function.Injective credOf := by
  rintro (_ | j) (_ | j') h
  · rfl
  · have h' : csem iBar = csem (iR j') := h
    exact absurd (csem_injective h') (by intro h; cases h)
  · have h' : csem (iR j) = csem iBar := h
    exact absurd (csem_injective h') (by intro h; cases h)
  · have h' : csem (iR j) = csem (iR j') := h
    exact congrArg Sum.inr (iR_inj (csem_injective h'))

/-- A device's launch credit covers its barrier and its receive cells. -/
theorem creds (c : Dev nD) : (Pipeline.launchCred O₀ c : sProp 𝕄) ⊢ credits c := by
  have h (Φ : SemLoc sig → sProp 𝕄) : bigSep Finset.univ Φ ⊢ iprop(Φ (.reg barS) ∗ bigSep Finset.univ fun j : Slot => Φ (.dma (rSem j.1 j.2))) := by
    have e : bigSep ((Finset.univ : Finset (Unit ⊕ Slot)).map ⟨credOf, credOf_injective⟩) Φ = iprop(Φ (.reg barS) ∗ bigSep Finset.univ fun j : Slot => Φ (.dma (rSem j.1 j.2))) := by
      have h1 := bigSep_univ_eq_bigSepL [()] (by decide) (by decide) (fun _ : Unit => Φ (.reg barS))
      rw [bigSepL_singleton] at h1
      rw [bigSep_map, bigSep_univ_sum]
      show BI.sep (bigSep Finset.univ fun _ : Unit => Φ (.reg barS)) _ = _
      rw [h1]; rfl
    rw [← e]
    exact bigSep_subset (Finset.subset_univ _)
  unfold Pipeline.launchCred credits
  refine (h _).trans (Entails.of_eq ?_)
  rw [launch_bar]
  congr 1
  refine congrArg _ (funext fun j => ?_)
  rw [launch_recv]

/-! ## The theorem's side conditions -/

/-- What the launch gives a device is what it starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨Harg, Hlev, Hcr, -, HG⟩
  ihave Hc := (creds (F := F) c) $$ Hcr
  imodintro
  unfold start
  isplitl
  · isplitl [HG]; · iexact HG
    isplitl [Hc]; · iexact Hc
    isplitl [Hlev]; · iexact Hlev
    unfold arg3; iexact Harg
  · iempintro

/-- With the region's buffers it is what the body starts from. -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ someBuf
  iintro ⟨Hs, -, Hr⟩
  isplitl [Hs]; · iexact Hs
  iexact Hr

/-- What the body leaves gives back the region's buffers and every counter at zero. -/
theorem phi1_exit (c : Dev nD) :
    (dats m 0 c).Φ (Fin.last cfg0.N) ⊢ iprop((unscopedSems0 c ∗ arg3 m c) ∗ Pipeline.ownSems0 osem c ∗ Pipeline.scopedRest cfg0.spec c) := by
  rw [show (dats m 0 c).Φ (Fin.last cfg0.N) = Φ₁ m c from rfl, scopedRest0_eq, unscopedSems0_eq]
  unfold Φ₁ someBuf Pipeline.ownSems0
  iintro ⟨Hr, HzS, HzB, Harg⟩
  isplitl [HzB Harg]
  · isplitl [HzB]; · iexact HzB
    iexact Harg
  isplitl [HzS]; · iexact HzS
  iexact Hr

/-- The pipeline's own waits are below everything owed. -/
theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The run -/

/-- What a window's array holds after the run. -/
def finalA (c : Dev nD) (w : Fin cfg0.W) : Buf (Elt F) ((cfg0.win w).arr.view.loc (c : Thread nD τ)) := (dats m 0 c).arrAt w cfg0.N

/-- A run leaves every window's array as computed and the weights as launched. -/
def QC : PUnit × MemSt nD τ sig (Elt F) → Prop := fun r =>
  ∀ c : Dev nD, (∀ w : Fin cfg0.W, r.2.mem ((cfg0.win w).arr.view.loc (c : Thread nD τ)) = finalA m c w)
    ∧ r.2.mem ((c : Thread nD τ).loc main_arg3) = m ((c : Thread nD τ).loc main_arg3)

/-- At the end the weights are as launched and the barrier's counter is zero. -/
theorem read_end (c : Dev nD) (s' : Phys nD τ sig (Elt F)) :
    iprop((unscopedSems0 c ∗ arg3 m c) ∗ emp ∗ SI s')
      ⊢ (|={Set.univ}=> iprop(⌜s'.mem.mem ((c : Thread nD τ).loc main_arg3) = m ((c : Thread nD τ).loc main_arg3)
          ∧ ∀ sm : SemLoc sig, sm.isScoped .tc = false → s'.mem.sem ((c.tc : Thread nD τ), sm) = 0⌝ ∗ SI s') : sProp 𝕄) := by
  unfold arg3
  iintro ⟨⟨Hu, Harg⟩, -, HSI⟩
  imod (Pipeline.unscopedSems0_read (X := unscopedSems0 c) (c := c) fupd_intro s') $$ [Hu HSI] with ⟨%h1, HSI⟩
  · isplitl [Hu] <;> iassumption
  ihave %h2 := (SI_pointsTo_agree (st := s') (I := Finset.univ) (q := fullShare) (ℓ := (c : Thread nD τ).loc main_arg3) (f := m ((c : Thread nD τ).loc main_arg3))) $$ [HSI Harg]
  · isplitl [HSI] <;> iassumption
  imodintro
  isplitr
  · ipureintro; exact ⟨funext fun i => h2 i (Finset.mem_univ _), h1⟩
  iexact HSI

set_option maxRecDepth 8000 in
/-- From any memory with zero counters, for any float values: every execution of the program ends, with each device's result
array at the computed contents, every argument unchanged and every counter at zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => iprop(unscopedSems0 c ∗ arg3 m c)) (Z := fun _ => iprop(emp))
    (hX := start_intro m ρ) (hin := phi0_intro m) (hout := phi1_exit m)
    (QY := fun c s => s.mem ((c : Thread nD τ).loc main_arg3) = m ((c : Thread nD τ).loc main_arg3)
      ∧ ∀ sm : SemLoc sig, sm.isScoped .tc = false → s.sem ((c.tc : Thread nD τ), sm) = 0)
    (hY := read_end m)
    (hQ := fun _ h hs => ⟨fun c => ⟨fun w => (h c).1 w, (h c).2.2.1⟩, sem_eq_zero hs fun c => (h c).2.2.2⟩)

end Cert.TopTwo

end
-- ==== Proof.Ends.lean ====
/-
# What a run leaves behind

The launch theorem speaks of windows. Here its end is read at the arrays themselves: the arguments are as they were,
and the result's array on every device holds the eight chunks of `outAt`. The frame claims follow.
-/
module

public import proofs.«01_k».proof.Defs
public import proofs.«01_k».proof.Proof.Whole
public import proofs.«01_k».proof.Proof.Gen.Kernel
public import proofs.«01_k».proof.Proof.Gen.ReferenceIdeal.Run
public import proofs.«01_k».proof.Proof.Gen.Pre_finite_two_experts_KernelIdeal
public import proofs.«01_k».proof.Proof.Gen.Pre_finite_two_experts_ReferenceIdeal

@[expose] public section

noncomputable section

namespace Cert.TopTwo

open Cert.KernelIdeal Cert.KernelIdeal.Gen
open Idealize.ShloMosaic
open Idealize.ShloMosaic.TcCoe
open Idealize.SL Idealize.SL.RA Idealize.SL.Sem
open Idealize.ShloMosaic.Pipeline (Dat Cfg Window cellOf)

variable {F : FTy → Type} [FloatOps F]
variable (m : (ℓ : Loc nD τ sig) → Buf (Elt F) ℓ) (ρ : Dev nD → PrngReg)

/-! ## The windows are whole arrays -/

/-- The tokens' staging buffer holds the whole token array. -/
theorem xstg_eq (c : Dev nD) : xstg m c = m ((c : Thread nD τ).loc main_arg0) :=
  Memref.read_access_unit_zero (Elt F) main_arg0
    (show (fun a => (win0_0.index t0_0) a * main_arg0.ty.shape.size a) = fun _ => 0 from funext fun a => by fin_cases a <;> decide)
    (fun a => by fin_cases a <;> decide) _
/-- The router's staging buffer holds the router's whole weights. -/
theorem rwstg_eq (c : Dev nD) : rwstg m c = m ((c : Thread nD τ).loc main_arg1) :=
  Memref.read_access_unit_zero (Elt F) main_arg1
    (show (fun a => (win0_1.index t0_0) a * main_arg1.ty.shape.size a) = fun _ => 0 from funext fun a => by fin_cases a <;> decide)
    (fun a => by fin_cases a <;> decide) _
/-- The routing's staging buffer holds the whole routing array. -/
theorem idxstg_eq (c : Dev nD) : idxstg m c = m ((c : Thread nD τ).loc main_arg2) :=
  Memref.read_access_unit_zero (Elt F) main_arg2
    (show (fun a => (win0_2.index t0_0) a * main_arg2.ty.shape.size a) = fun _ => 0 from funext fun a => by fin_cases a <;> decide)
    (fun a => by fin_cases a <;> decide) _

/-! ## The arrays at the end -/

/-- The token array is only read. -/
theorem finalA_x (c : Dev nD) : finalA m c (0 : Fin 4) = m ((c : Thread nD τ).loc main_arg0) := (dats (F := F) m 0 c).arrAt_in (0 : Fin 4) rfl _
/-- The router's weights are only read. -/
theorem finalA_rw (c : Dev nD) : finalA m c (1 : Fin 4) = m ((c : Thread nD τ).loc main_arg1) := (dats (F := F) m 0 c).arrAt_in (1 : Fin 4) rfl _
/-- The routing is only read. -/
theorem finalA_idx (c : Dev nD) : finalA m c (2 : Fin 4) = m ((c : Thread nD τ).loc main_arg2) := (dats (F := F) m 0 c).arrAt_in (2 : Fin 4) rfl _
/-- The result's array, read through its one block, is what the body left in the staging buffer. -/
theorem finalA_block (c : Dev nD) : (win0_3.blk t0_0).view.read (Elt F) (finalA m c (3 : Fin 4)) = outAt m c := by
  unfold finalA
  rw [show cfg0.N = (t0_0 : Fin cfg0.N).val + 1 from rfl, (dats m 0 c).arrAt_succ (3 : Fin 4) t0_0]
  rw [show (cfg0.win (3 : Fin 4)).flush t0_0 = true from by decide, if_pos rfl]
  exact View.read_write_univ _ _
/-- The result's array holds the eight chunks. -/
theorem finalA_out (c : Dev nD) : finalA m c (3 : Fin 4) = outAt m c :=
  (Memref.read_access_unit_zero (Elt F) main_v1
    (show (fun a => (win0_3.index t0_0) a * main_v1.ty.shape.size a) = fun _ => 0 from funext fun a => by fin_cases a <;> decide)
    (fun a => by fin_cases a <;> decide) _).symm.trans (finalA_block m c)

/-- What a run leaves: each device's result at the computed chunks, its arguments as they were. -/
theorem run_end : θ_run defs (onTc (τ := τ) (main (F := F))) (s₀ m ρ) (fun r => (∀ c : Dev nD,
    r.2.mem ((c : Thread nD τ).loc main_v1) = outAt m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)) ∧ r.2.sem = fun _ => 0) :=
  (θ_run defs _ _).mono (fun _ h => ⟨fun c => ⟨((h.1 c).1 (3 : Fin 4)).trans (finalA_out m c), ((h.1 c).1 (0 : Fin 4)).trans (finalA_x m c),
    ((h.1 c).1 (1 : Fin 4)).trans (finalA_rw m c), ((h.1 c).1 (2 : Fin 4)).trans (finalA_idx m c), (h.1 c).2⟩, h.2⟩) (run_main m ρ)

/-! ## The frame claims -/

/-- The program printed for the extended reals has the same body table as the one printed for bits. -/
theorem bodies_same : (Cert.Kernel.defs₀ (F := F)) = (Cert.KernelIdeal.defs₀ (F := F)) := by
  unfold Cert.Kernel.defs₀ Cert.KernelIdeal.defs₀
  refine congrArg Defs.onTc ?_
  funext l a
  sl_kernel_rfl
/-- The two printed programs have the same tables. -/
theorem defs_same : (Cert.Kernel.defs (F := F)) = (Cert.KernelIdeal.defs (F := F)) := by
  unfold Cert.Kernel.defs Cert.KernelIdeal.defs
  rw [bodies_same]
  rfl
/-- The two printed programs start alike. -/
theorem main_same : (Cert.Kernel.main (F := F)) = (Cert.KernelIdeal.main (F := F)) := by rfl

/-- The program over bits ends, its arguments unchanged and its counters at zero. -/
theorem frame_kernel : Cert.quiescent_Kernel (hKernel := Cert.Kernel.Gen.facts) := by
  intro m ρ _
  have h := (θ_run Cert.KernelIdeal.defs _ _).mono (fun _ h => (⟨fun c => (h.1 c).2, h.2⟩ : (∀ c, _) ∧ _)) (run_end (F := Bits) m ρ)
  rw [defs_same, main_same]
  exact h
/-- The program over the extended reals ends, its arguments unchanged and its counters at zero. -/
theorem frame_ideal : Cert.quiescent_KernelIdeal (hKernelIdeal := Cert.KernelIdeal.Gen.facts) := fun m ρ _ =>
  (θ_run Cert.KernelIdeal.defs _ _).mono (fun _ h => ⟨fun c => (h.1 c).2, h.2⟩) (run_end (F := Ideal) m ρ)
/-- The same for inputs that meet the precondition. -/
theorem frame_ideal_pre : Cert.quiescent_KernelIdeal_pre_finite_two_experts_KernelIdeal (hKernelIdeal := Cert.KernelIdeal.Gen.facts)
    (hPre_finite_two_experts_KernelIdeal := Cert.Pre_finite_two_experts_KernelIdeal.Gen.facts) := fun m ρ _ =>
  (θ_run Cert.KernelIdeal.defs _ _).mono (fun _ h => ⟨fun c => (h.1 c).2, h.2⟩) (run_end (F := Ideal) m ρ)
/-- The reference ends, its arguments unchanged and its counters at zero. -/
theorem frame_reference : Cert.quiescent_ReferenceIdeal (hReferenceIdeal := Cert.ReferenceIdeal.Gen.facts) := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)
/-- The same for inputs that meet the precondition. -/
theorem frame_reference_pre : Cert.quiescent_ReferenceIdeal_pre_finite_two_experts_ReferenceIdeal (hReferenceIdeal := Cert.ReferenceIdeal.Gen.facts)
    (hPre_finite_two_experts_ReferenceIdeal := Cert.Pre_finite_two_experts_ReferenceIdeal.Gen.facts) := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

end Cert.TopTwo

end
-- ==== Proof.Shares.lean ====
/-
# Softmax and shares over the extended reals

The scalar mathematics both programs share: a softmax of finite scores is a positive real, so a share of two of its
values is a nonnegative real, and multiplication by a nonnegative real distributes over sums of extended reals.
A one-hot sum picks one value out of eight.
-/
module

public import Idealize.ShloMosaic.Lib.Pointwise

@[expose] public section

noncomputable section

namespace Cert.TopTwo

open Idealize.ShloMosaic
open Idealize.SL.Sem

/-! ## The softmax -/

/-- The greatest of eight scores, from the least extended real up. -/
def top (s : Fin 8 → EReal) : EReal := Finset.fold max (Ideal.ofBits FTy.f32 0xFF800000#32) s Finset.univ
/-- The softmax of eight scores. -/
def soft (s : Fin 8 → EReal) (e : Fin 8) : EReal := Ideal.div (Ideal.exp (s e - top s)) (∑ j, Ideal.exp (s j - top s))

/-- A sum of reals is the real sum. -/
theorem sum_coe {ι : Type} [Fintype ι] (f : ι → ℝ) : (∑ i, (f i : EReal)) = ((∑ i, f i : ℝ) : EReal) := by
  classical
  refine Finset.induction_on (motive := fun S => (∑ i ∈ S, (f i : EReal)) = ((∑ i ∈ S, f i : ℝ) : EReal)) Finset.univ rfl ?_
  intro a S ha ih
  rw [Finset.sum_insert ha, Finset.sum_insert ha, ih, EReal.coe_add]

/-- The greatest of eight real scores is real. -/
theorem top_real (r : Fin 8 → ℝ) : ∃ M : ℝ, top (fun e => (r e : EReal)) = (M : EReal) := by
  have hb : Ideal.ofBits FTy.f32 0xFF800000#32 = ⊥ := by simp [Ideal.ofBits, Ideal.ieee]
  have hlo : (r 0 : EReal) ≤ top (fun e => (r e : EReal)) := (Finset.le_fold_max _).mpr (Or.inr ⟨0, Finset.mem_univ _, le_refl _⟩)
  have hhi : top (fun e => (r e : EReal)) < ⊤ := (Finset.fold_max_lt _).mpr ⟨by rw [hb]; exact bot_lt_top, fun e _ => EReal.coe_lt_top _⟩
  exact ⟨(top fun e => (r e : EReal)).toReal, (EReal.coe_toReal hhi.ne (ne_of_gt (lt_of_lt_of_le (EReal.bot_lt_coe _) hlo))).symm⟩

/-- Division of a real by a nonzero real. -/
theorem div_coe (a b : ℝ) (hb : b ≠ 0) : Ideal.div (a : EReal) (b : EReal) = ((a / b : ℝ) : EReal) := by
  unfold Ideal.div
  rw [if_neg (by exact_mod_cast hb), div_eq_mul_inv, EReal.coe_mul, EReal.coe_inv]

/-- The softmax of real scores is a positive real. -/
theorem soft_pos (r : Fin 8 → ℝ) (e : Fin 8) : ∃ p : ℝ, 0 < p ∧ soft (fun e => (r e : EReal)) e = (p : EReal) := by
  obtain ⟨M, hM⟩ := top_real r
  have hx : ∀ j, Ideal.exp ((r j : EReal) - top (fun e => (r e : EReal))) = ((Real.exp (r j - M) : ℝ) : EReal) := fun j => by
    rw [hM, ← EReal.coe_sub]; rfl
  have hs : 0 < ∑ j : Fin 8, Real.exp (r j - M) := Finset.sum_pos (fun j _ => Real.exp_pos _) ⟨0, Finset.mem_univ _⟩
  refine ⟨Real.exp (r e - M) / ∑ j : Fin 8, Real.exp (r j - M), div_pos (Real.exp_pos _) hs, ?_⟩
  unfold soft
  simp only [hx]
  rw [sum_coe, div_coe _ _ hs.ne']

/-! ## Shares -/

/-- A share of two positive reals is a nonnegative real. -/
theorem share_real (p q : ℝ) (hp : 0 < p) (hq : 0 < q) : ∃ g : ℝ, 0 ≤ g ∧ Ideal.div (p : EReal) ((p : EReal) + (q : EReal)) = (g : EReal) := by
  refine ⟨p / (p + q), (div_pos hp (add_pos hp hq)).le, ?_⟩
  rw [← EReal.coe_add, div_coe _ _ (add_pos hp hq).ne']

/-- A nonnegative real factor moves out of a sum. -/
theorem scale_sum {n : ℕ} (g : ℝ) (hg : 0 ≤ g) (f : Fin n → EReal) : (∑ d, (g : EReal) * f d) = (g : EReal) * ∑ d, f d := by
  classical
  refine Finset.induction_on (motive := fun S => (∑ d ∈ S, (g : EReal) * f d) = (g : EReal) * ∑ d ∈ S, f d) Finset.univ (by simp) ?_
  intro a S ha ih
  rw [Finset.sum_insert ha, Finset.sum_insert ha, ih,
    EReal.left_distrib_of_nonneg_of_ne_top (by exact_mod_cast hg) (EReal.coe_ne_top g)]

/-- Tokens weighted before the product give the product weighted. -/
theorem weighted_sum {n : ℕ} (g : ℝ) (hg : 0 ≤ g) (x w : Fin n → EReal) : (∑ d, ((g : EReal) * x d) * w d) = (g : EReal) * ∑ d, x d * w d := by
  rw [← scale_sum g hg]
  exact Finset.sum_congr rfl fun d _ => mul_assoc _ _ _

/-! ## One-hot sums -/

/-- The one-hot factor of two experts' words. -/
theorem oneHot (e a : Fin 8) : (FloatOps.sitofp (F := Ideal) FTy.f32 (BitVec.setWidth 32 (IntOp.cmpi CmpIPredicate.eq (BitVec.ofNat 32 e.val) (BitVec.ofNat 32 a.val))) : EReal)
    = if e = a then 1 else 0 := by
  have h : BitVec.setWidth 32 (IntOp.cmpi CmpIPredicate.eq (BitVec.ofNat 32 e.val) (BitVec.ofNat 32 a.val)) = if e = a then 1#32 else 0#32 := by
    revert e a; decide
  rw [h]
  show ((((if e = a then 1#32 else 0#32 : BitVec 32).toInt : ℝ)) : EReal) = _
  split
  · have : (1#32 : BitVec 32).toInt = 1 := by decide
    rw [this]; simp
  · have : (0#32 : BitVec 32).toInt = 0 := by decide
    rw [this]; simp

/-- A one-hot sum picks the expert's value. -/
theorem pick (p : Fin 8 → EReal) (a : Fin 8) :
    (∑ e : Fin 8, p e * (FloatOps.sitofp (F := Ideal) FTy.f32 (BitVec.setWidth 32 (IntOp.cmpi CmpIPredicate.eq (BitVec.ofNat 32 e.val) (BitVec.ofNat 32 a.val))) : EReal)) = p a := by
  rw [Finset.sum_congr rfl fun e _ => by rw [oneHot e a]]
  rw [Finset.sum_eq_single a (fun e _ h => by rw [if_neg h, mul_zero]) (fun h => absurd (Finset.mem_univ a) h), if_pos rfl, mul_one]

/-- Whether one of two experts' words is a third's. -/
theorem either (a b e : Fin 8) : IntOp.ori (IntOp.cmpi CmpIPredicate.eq (BitVec.ofNat 32 a.val) (BitVec.ofNat 32 e.val))
    (IntOp.cmpi CmpIPredicate.eq (BitVec.ofNat 32 b.val) (BitVec.ofNat 32 e.val)) = if e = a ∨ e = b then 1#1 else 0#1 := by
  revert a b e; decide

/-! ## The sum over the experts -/

/-- What the eight experts give a token when only two different ones have a weight: the two weighted outputs. -/
theorem two_of_eight (a b : Fin 8) (hab : a ≠ b) (h : Fin 8 → EReal) : (∑ e : Fin 8, if e = a ∨ e = b then h e else 0) = h a + h b := by
  rw [Finset.sum_eq_add a b hab (fun c _ hc => if_neg (by tauto)) (fun h => absurd (Finset.mem_univ a) h) (fun h => absurd (Finset.mem_univ b) h),
    if_pos (Or.inl rfl), if_pos (Or.inr rfl)]

/-- The experts in pairs, a pair per device. -/
theorem pairs (h : Fin 8 → EReal) : (∑ c : Fin 4, (h ⟨2 * c.val, by omega⟩ + h ⟨2 * c.val + 1, by omega⟩)) = ∑ e : Fin 8, h e := by
  rw [Fin.sum_univ_four, Fin.sum_univ_eight]
  show (h 0 + h 1) + (h 2 + h 3) + (h 4 + h 5) + (h 6 + h 7) = _
  simp only [add_assoc]

end Cert.TopTwo

end
-- ==== Proof.KernelValue.lean ====
/-
# The kernel's result at an index

Each device's own chunk, the sum of the four devices' chunks, and the result array, over the extended reals.
-/
module

public import proofs.«01_k».proof.Proof.Shares
public import proofs.«01_k».proof.Proof.Ends
public import Idealize.ShloMosaic.Lib.Pointwise

@[expose] public section

noncomputable section

namespace Cert.TopTwo

open Cert.KernelIdeal Cert.KernelIdeal.Gen
open Idealize.ShloMosaic
open Idealize.ShloMosaic.TcCoe
open Idealize.SL.Sem
open Idealize.ShloMosaic.Pointwise

/-! ## What the loads read -/

variable (m : (ℓ : Loc nD τ sig) → Buf (Elt Ideal) ℓ)

/-- Offset zero and step one leave a coordinate as it is. -/
theorem at_zero (n : ℕ) : 0 + 1 * n = n := by omega

/-- A device's token array. -/
abbrev xA (c : Dev nD) : FVec Ideal S512x256 .bf16 := m ((c : Thread nD τ).loc main_arg0)
/-- A device's router weights. -/
abbrev rwA (c : Dev nD) : FVec Ideal S256x8 .bf16 := m ((c : Thread nD τ).loc main_arg1)
/-- A device's routing array. -/
abbrev idxA (c : Dev nD) : IVec S512x2 32 := m ((c : Thread nD τ).loc main_arg2)
/-- A device's own experts' weights. -/
abbrev ewA (c : Dev nD) : FVec Ideal S2x256x512 .f32 := m ((c : Thread nD τ).loc main_arg3)

/-- The tokens loaded are the token array. -/
theorem load_x (c : Dev nD) (t : Fin 512) (d : Fin 256) :
    xM.view.readAt (Elt Ideal) rX.toLoadRect (xstg m c) (ix2 t d) = xA m c (ix2 t d) := by
  show _ = m ((c : Thread nD τ).loc main_arg0) (ix2 t d)
  rw [← xstg_eq m c]
  refine congrArg (xstg m c) (funext fun a => Fin.ext ?_)
  fin_cases a <;> exact at_zero _
/-- The router weights loaded are the router's array. -/
theorem load_rw (c : Dev nD) (d : Fin 256) (e : Fin 8) :
    rwM.view.readAt (Elt Ideal) rRW.toLoadRect (rwstg m c) (ix2 d e) = rwA m c (ix2 d e) := by
  show _ = m ((c : Thread nD τ).loc main_arg1) (ix2 d e)
  rw [← rwstg_eq m c]
  refine congrArg (rwstg m c) (funext fun a => Fin.ext ?_)
  fin_cases a <;> exact at_zero _
/-- The first routing column loaded. -/
theorem load_i0 (c : Dev nD) (t : Fin 512) :
    idxM.view.readAt (Elt Ideal) rI0.toLoadRect (idxstg m c) (ix2 t 0) = idxA m c (ix2 t 0) := by
  show _ = m ((c : Thread nD τ).loc main_arg2) (ix2 t 0)
  rw [← idxstg_eq m c]
  refine congrArg (idxstg m c) (funext fun a => Fin.ext ?_)
  fin_cases a <;> exact at_zero _
/-- The second routing column loaded. -/
theorem load_i1 (c : Dev nD) (t : Fin 512) :
    idxM.view.readAt (Elt Ideal) rI1.toLoadRect (idxstg m c) (ix2 t 0) = idxA m c (ix2 t 1) := by
  show _ = m ((c : Thread nD τ).loc main_arg2) (ix2 t 1)
  rw [← idxstg_eq m c]
  refine congrArg (idxstg m c) (funext fun a => Fin.ext ?_)
  fin_cases a
  · exact at_zero _
  · rfl
/-- The first local expert's weights loaded. -/
theorem load_e0 (c : Dev nD) (d : Fin 256) (l : Fin 512) :
    ewM.view.readAt (Elt Ideal) rE0.toLoadRect (ewstg m c) (ix3 0 d l) = ewA m c (ix3 0 d l) := by
  refine congrArg (ewA m c) (funext fun a => Fin.ext ?_)
  fin_cases a
  · rfl
  · exact at_zero _
  · exact at_zero _
/-- The second local expert's weights loaded. -/
theorem load_e1 (c : Dev nD) (d : Fin 256) (l : Fin 512) :
    ewM.view.readAt (Elt Ideal) rE1.toLoadRect (ewstg m c) (ix3 0 d l) = ewA m c (ix3 1 d l) := by
  refine congrArg (ewA m c) (funext fun a => Fin.ext ?_)
  fin_cases a
  · rfl
  · exact at_zero _
  · exact at_zero _

/-! ## The gated tokens -/

/-- A local expert's number, as a device computes it. -/
theorem word0 (c : Dev nD) : Scalar.addi (Scalar.muli 2#32 (place c)) 0#32 = BitVec.ofNat 32 (2 * c.val) := by
  revert c; decide
/-- The other local expert's number. -/
theorem word1 (c : Dev nD) : Scalar.addi (Scalar.muli 2#32 (place c)) 1#32 = BitVec.ofNat 32 (2 * c.val + 1) := by
  revert c; decide

/-- The kernel's softmax at an index. -/
theorem prob_at (x : FVec Ideal S512x256 .bf16) (rw' : FVec Ideal S256x8 .bf16) (t : Fin 512) (e : Fin 8) :
    k0_pay3 (F := Ideal) x rw' (ix2 t e) = soft (fun j => ∑ d : Fin 256, (x (ix2 t d) : EReal) * rw' (ix2 d j)) e := by
  unfold soft top
  pointwise [k0_pay3, k0_pay2]
/-- The first chosen expert's one-hot probabilities. -/
theorem hot_at (x : FVec Ideal S512x256 .bf16) (rw' : FVec Ideal S256x8 .bf16) (i0 : IVec S512x1 32) (t : Fin 512) (e : Fin 8) :
    k0_pay6 (F := Ideal) x rw' i0 (ix2 t e) = k0_pay3 (F := Ideal) x rw' (ix2 t e) *
      FloatOps.sitofp (F := Ideal) FTy.f32 (BitVec.setWidth 32 (IntOp.cmpi CmpIPredicate.eq (BitVec.ofNat 32 e.val) (i0 (ix2 t 0)))) := by
  pointwise [k0_pay6, k0_pay4]

/-- A token's entry times the share that expert `e` has of it: its probability in the sum of the two chosen ones. -/
def gated (p : Fin 8 → EReal) (a b e : Fin 8) (v : EReal) : EReal := if e = a ∨ e = b then Ideal.div (p e) (p a + p b) * v else 0

/-- The tokens gated for a device's first expert. -/
theorem gated0_at (c : Dev nD) (x : FVec Ideal S512x256 .bf16) (rw' : FVec Ideal S256x8 .bf16) (i0 i1 : IVec S512x1 32) (t : Fin 512) (d : Fin 256)
    (a b : Fin 8) (ha : i0 (ix2 t 0) = BitVec.ofNat 32 a.val) (hb : i1 (ix2 t 0) = BitVec.ofNat 32 b.val) (e : Fin 8) (he : e.val = 2 * c.val) :
    gated0 (F := Ideal) (place c) x rw' i0 i1 (ix2 t d) = gated (fun e => k0_pay3 (F := Ideal) x rw' (ix2 t e)) a b e (x (ix2 t d)) := by
  have hq : ∀ j, k0_pay6 (F := Ideal) x rw' i0 (ix2 t j) = _ := hot_at x rw' i0 t
  unfold gated0
  generalize k0_pay6 (F := Ideal) x rw' i0 = q at hq
  generalize k0_pay3 (F := Ideal) x rw' = p at hq
  pointwise [k0_pay8, k0_pay7, k0_pay2, k0_pay4, k0_pay5]
  rw [word0, ← he, ha, hb, either, pick, Finset.sum_congr rfl fun j _ => (hq j).trans (by rw [ha]), pick, pick]
  unfold gated
  split <;> rfl
/-- The tokens gated for a device's second expert. -/
theorem gated1_at (c : Dev nD) (x : FVec Ideal S512x256 .bf16) (rw' : FVec Ideal S256x8 .bf16) (i0 i1 : IVec S512x1 32) (t : Fin 512) (d : Fin 256)
    (a b : Fin 8) (ha : i0 (ix2 t 0) = BitVec.ofNat 32 a.val) (hb : i1 (ix2 t 0) = BitVec.ofNat 32 b.val) (e : Fin 8) (he : e.val = 2 * c.val + 1) :
    gated1 (F := Ideal) (place c) x rw' i0 i1 (ix2 t d) = gated (fun e => k0_pay3 (F := Ideal) x rw' (ix2 t e)) a b e (x (ix2 t d)) := by
  have hq : ∀ j, k0_pay6 (F := Ideal) x rw' i0 (ix2 t j) = _ := hot_at x rw' i0 t
  unfold gated1
  generalize k0_pay6 (F := Ideal) x rw' i0 = q at hq
  generalize k0_pay3 (F := Ideal) x rw' = p at hq
  pointwise [k0_pay10, k0_pay9, k0_pay7, k0_pay2, k0_pay4, k0_pay5]
  rw [word1, ← he, ha, hb, either, pick, Finset.sum_congr rfl fun j _ => (hq j).trans (by rw [ha]), pick, pick]
  unfold gated
  split <;> rfl

/-! ## Chunks -/

/-- Chunk `k`'s row `r` is the array's row. -/
abbrev rowOf (k : Fin 8) (r : Fin 64) : Fin 512 := ⟨64 * k.val + r.val, by omega⟩

/-- A device's chunk at an index: its two experts' sums. -/
theorem partial_at (g0 g1 : FVec Ideal S512x256 .bf16) (e0 e1 : FVec Ideal S1x256x512 .f32) (k : Fin 8) (r : Fin 64) (l : Fin 512) :
    partialOf g0 g1 (k0_pay11 e0) (k0_pay12 e1) k (ix2 r l)
      = (∑ d : Fin 256, (g0 (ix2 (rowOf k r) d) : EReal) * e0 (ix3 0 d l)) + ∑ d : Fin 256, (g1 (ix2 (rowOf k r) d) : EReal) * e1 (ix3 0 d l) := by
  pointwise [partialOf, rows, k0_pay11, k0_pay12]
/-- A received chunk added. -/
theorem plus_at (p q : FVec Ideal S64x512 .f32) (r : Fin 64) (l : Fin 512) :
    plus p (packed q) (ix2 r l) = (p (ix2 r l) + q (ix2 r l) : EReal) := by
  pointwise [plus, packed]
/-- The last narrowing changes nothing. -/
theorem rounded_at (p : FVec Ideal S64x512 .f32) (r : Fin 64) (l : Fin 512) : rounded p (ix2 r l) = (p (ix2 r l) : EReal) := by
  pointwise [rounded]

/-- The four devices a chunk meets on its way are all four. -/
theorem four_devices (f : Dev nD → EReal) (c : Dev nD) (k : Fin 8) :
    (f c + f (peer c (0, k))) + (f (peer c (1, k)) + f (peer (peer c (1, k)) (0, k))) = ∑ d : Dev nD, f d := by
  have h : ({c, peer c (0, k), peer c (1, k), peer (peer c (1, k)) (0, k)} : Multiset (Dev nD)) = Finset.univ.val := by
    revert c k; decide
  have e : ∑ d : Dev nD, f d = (Multiset.map f ({c, peer c (0, k), peer c (1, k), peer (peer c (1, k)) (0, k)} : Multiset (Dev nD))).sum := by
    rw [h]; rfl
  rw [e]
  simp [add_assoc]

/-- The result on any device: the sum of the four devices' chunks. -/
theorem final_at (c : Dev nD) (k : Fin 8) (r : Fin 64) (l : Fin 512) :
    final m c k (ix2 r l) = ∑ d : Dev nD, (own m d k (ix2 r l) : EReal) := by
  unfold final both
  rw [rounded_at, plus_at, plus_at, plus_at]
  exact four_devices (fun d => own m d k (ix2 r l)) c k

/-! ## A device's own chunk -/

/-- A sum of gated entries: the share of the sum, when the share is a nonnegative real, and nothing for an expert not chosen. -/
theorem gated_sum (p : Fin 8 → EReal) (hp : ∀ e, ∃ q : ℝ, 0 < q ∧ p e = (q : EReal)) (a b e : Fin 8) (x w : Fin 256 → EReal) :
    (∑ d : Fin 256, gated p a b e (x d) * w d) = if e = a ∨ e = b then Ideal.div (p e) (p a + p b) * ∑ d, x d * w d else 0 := by
  unfold gated
  split
  · rename_i h
    obtain ⟨pa, hpa, ea⟩ := hp a
    obtain ⟨pb, hpb, eb⟩ := hp b
    have : ∃ g : ℝ, 0 ≤ g ∧ Ideal.div (p e) (p a + p b) = (g : EReal) := by
      rcases h with rfl | rfl
      · rw [ea, eb]; exact share_real _ _ hpa hpb
      · rw [ea, eb, add_comm]; exact share_real _ _ hpb hpa
    obtain ⟨g, hg, eg⟩ := this
    rw [eg]
    exact weighted_sum g hg x w
  · simp

/-- The softmax probability of expert `e` for token `t`, from the arrays device `c` holds. -/
def prob (c : Dev nD) (t : Fin 512) (e : Fin 8) : EReal :=
  soft (fun j => ∑ d : Fin 256, (xA m c (ix2 t d) : EReal) * rwA m c (ix2 d j)) e

/-- A device's own chunk at an index, its gates written out. -/
theorem own_at (c : Dev nD) (k : Fin 8) (r : Fin 64) (l : Fin 512) (a b : Fin 8)
    (ha : idxA m c (ix2 (rowOf k r) 0) = BitVec.ofNat 32 a.val)
    (hb : idxA m c (ix2 (rowOf k r) 1) = BitVec.ofNat 32 b.val) (e0 e1 : Fin 8) (h0 : e0.val = 2 * c.val) (h1 : e1.val = 2 * c.val + 1) :
    own m c k (ix2 r l)
      = (∑ d : Fin 256, gated (prob m c (rowOf k r)) a b e0 (xA m c (ix2 (rowOf k r) d)) * (ewA m c (ix3 0 d l) : EReal))
        + ∑ d : Fin 256, gated (prob m c (rowOf k r)) a b e1 (xA m c (ix2 (rowOf k r) d)) * (ewA m c (ix3 1 d l) : EReal) := by
  have hp : ∀ e, k0_pay3 (xM.view.readAt (Elt Ideal) rX.toLoadRect (xstg m c)) (rwM.view.readAt (Elt Ideal) rRW.toLoadRect (rwstg m c)) (ix2 (rowOf k r) e) = prob m c (rowOf k r) e := fun e => by
    rw [prob_at]
    refine congrArg (fun s => soft s e) (funext fun j => Finset.sum_congr rfl fun d _ => ?_)
    rw [load_x, load_rw]
  unfold own ownChunk
  rw [partial_at]
  refine congrArg₂ (· + ·) (Finset.sum_congr rfl fun d _ => ?_) (Finset.sum_congr rfl fun d _ => ?_)
  · rw [gated0_at c _ _ _ _ _ d a b ((load_i0 m c _).trans ha) ((load_i1 m c _).trans hb) e0 h0, load_x, load_e0, funext hp]
  · rw [gated1_at c _ _ _ _ _ d a b ((load_i0 m c _).trans ha) ((load_i1 m c _).trans hb) e1 h1, load_x, load_e1, funext hp]

end Cert.TopTwo

end
-- ==== Proof.Gathers.lean ====
/-
# Selecting along the expert axis

The reference picks each token's experts with `take_along_axis`: an index is wrapped if negative, the element is
gathered, and a result out of range is replaced. Here the two gathers of that form are read at an index, and the
whole selection is read at an index whose expert is in range.
-/
module

public import proofs.«01_k».proof.Proof.Gen.ReferenceIdeal.Run
public import Idealize.ShloMosaic.Lib.Pointwise
public import Idealize.ShloMosaic.Lib.ReduceAll

@[expose] public section

noncomputable section

namespace Cert.TopTwo.Ref

open Cert.ReferenceIdeal Cert.ReferenceIdeal.Gen
open Idealize.ShloMosaic
open Idealize.SL.Sem
open Idealize.ShloMosaic.Pointwise

variable {α : Type}

/-- The gather of single elements: token `t`'s column `j` reads the operand's row `t` at the clamped start index. -/
theorem gather_prob (p : S512x8.Idx → α) (w : IVec S512x2x1 32) (t : Fin 512) (j : Fin 2) :
    Host.gather gather_S512x8_S512x2x1_S512x2_n_1_0_0_1_2_11 p w (ix2 t j)
      = p (ix2 t ⟨min (w (ix3 t j 0)).toInt.toNat 7, by omega⟩) := by
  unfold Host.gather
  congr 1
  funext a
  refine Fin.ext ?_
  show GatherDims.start _ (ix2 t j) w a + GatherDims.batchCoord _ (ix2 t j) a + GatherDims.offCoord _ (ix2 t j) a = _
  have h01 : a = 0 ∨ a = 1 := by revert a; decide
  rcases h01 with rfl | rfl
  · rw [GatherDims.start_batching _ _ _ _ (by decide), GatherDims.offCoord_eq_zero _ _ _ (by decide)]
    simp only [Nat.zero_add, Nat.add_zero]
    unfold GatherDims.batchCoord
    rw [dif_pos (by decide)]
    rfl
  · rw [GatherDims.batchCoord_eq_zero _ _ _ (by decide), GatherDims.offCoord_eq_zero _ _ _ (by decide)]
    simp only [Nat.add_zero]
    unfold GatherDims.start
    rw [dif_pos (by decide)]
    have hsi : ∀ h, GatherDims.siIdx gather_S512x8_S512x2x1_S512x2_n_1_0_0_1_2_11 (ix2 t j) ⟨0, h⟩ = ix3 t j 0 := by
      intro h
      funext b; refine Fin.ext ?_
      fin_cases b <;> rfl
    exact congrArg (fun i => min (w i).toInt.toNat 7) (hsi _)

/-- The gather of whole rows: token `t`'s column `l` reads the operand at `t`, the clamped start index and `l`. -/
theorem gather_row (y : S512x8x512.Idx → α) (w : IVec S512x1x1 32) (t : Fin 512) (l : Fin 512) :
    Host.gather gather_S512x8x512_S512x1x1_S512x1x512_2_1_0_0_1_2_11512 y w (ix3 t 0 l)
      = y (ix3 t ⟨min (w (ix3 t 0 0)).toInt.toNat 7, by omega⟩ l) := by
  unfold Host.gather
  congr 1
  funext a
  refine Fin.ext ?_
  show GatherDims.start _ (ix3 t 0 l) w a + GatherDims.batchCoord _ (ix3 t 0 l) a + GatherDims.offCoord _ (ix3 t 0 l) a = _
  have h01 : a = 0 ∨ a = 1 ∨ a = 2 := by revert a; decide
  rcases h01 with rfl | rfl | rfl
  · rw [GatherDims.start_batching _ _ _ _ (by decide), GatherDims.offCoord_eq_zero _ _ _ (by decide)]
    simp only [Nat.zero_add, Nat.add_zero]
    unfold GatherDims.batchCoord
    rw [dif_pos (by decide)]
    rfl
  · rw [GatherDims.batchCoord_eq_zero _ _ _ (by decide), GatherDims.offCoord_eq_zero _ _ _ (by decide)]
    simp only [Nat.add_zero]
    unfold GatherDims.start
    rw [dif_pos (by decide)]
    have hsi : ∀ h, GatherDims.siIdx gather_S512x8x512_S512x1x1_S512x1x512_2_1_0_0_1_2_11512 (ix3 t 0 l) ⟨0, h⟩ = ix3 t 0 0 := by
      intro h
      funext b; refine Fin.ext ?_
      fin_cases b <;> rfl
    exact congrArg (fun i => min (w i).toInt.toNat 7) (hsi _)
  · rw [GatherDims.batchCoord_eq_zero _ _ _ (by decide)]
    unfold GatherDims.start GatherDims.offCoord
    rw [dif_neg (by decide), dif_pos (by decide)]
    simp only [Nat.zero_add, Nat.add_zero]
    rfl

/-! ## The selection around the gathers -/

/-- The experts' words with the negative ones wrapped, one column per choice. -/
def wrapTwo (idx : IVec S512x2 32) : IVec S512x2x1 32 :=
  shapeCast _ (select (cmpi .slt idx (broadcastInDim S512x2 ![] bcast_S_S512x2 (constantI S_ 32 0#32)))
    (addi idx (broadcastInDim S512x2 ![] bcast_S_S512x2 (constantI S_ 32 8#32))) idx) shapeCasts_S512x2_S512x2x1
/-- Whether a wrapped word is in range. -/
def inTwo (idx : IVec S512x2 32) : IVec S512x2 1 :=
  Host.reduce IntOp.andi (andi (cmpi .sge (wrapTwo idx) (broadcastInDim S512x2x1 ![] bcast_S_S512x2x1 (constantI S_ 32 0#32)))
    (cmpi .sle (wrapTwo idx) (broadcastInDim S512x2x1 ![0, 1, 2] bcast_S1x1x1_S512x2x1_0_1_2 (broadcastInDim S1x1x1 ![2] bcast_S1_S1x1x1_2 (constantI S1 32 7#32)))))
    (constantI S_ 1 1#1) reducesTo_S512x2x1_S512x2_d2 h_S_
/-- Each token's two chosen probabilities. -/
def takeTwo (p : FVec Ideal S512x8 .f32) (idx : IVec S512x2 32) : FVec Ideal S512x2 .f32 :=
  select (inTwo idx) (Host.gather gather_S512x8_S512x2x1_S512x2_n_1_0_0_1_2_11 p (wrapTwo idx))
    (broadcastInDim S512x2 ![] bcast_S_S512x2 (constant S_ .f32 0x7FC00000#32))

/-- One column of experts' words with the negative ones wrapped. -/
def wrapOne (j : IVec S512x1x1 32) : IVec S512x1x1 32 :=
  select (cmpi .slt j (broadcastInDim S512x1x1 ![] bcast_S_S512x1x1 (constantI S_ 32 0#32)))
    (addi j (broadcastInDim S512x1x1 ![] bcast_S_S512x1x1 (constantI S_ 32 8#32))) j
/-- Whether a wrapped word is in range. -/
def inOne (j : IVec S512x1x1 32) : IVec S512x1 1 :=
  Host.reduce IntOp.andi (andi (cmpi .sge (wrapOne j) (broadcastInDim S512x1x1 ![] bcast_S_S512x1x1 (constantI S_ 32 0#32)))
    (cmpi .sle (wrapOne j) (broadcastInDim S512x1x1 ![0, 1, 2] bcast_S1x1x1_S512x1x1_0_1_2 (broadcastInDim S1x1x1 ![2] bcast_S1_S1x1x1_2 (constantI S1 32 7#32)))))
    (constantI S_ 1 1#1) reducesTo_S512x1x1_S512x1_d2 h_S_
/-- Each token's row of one chosen expert. -/
def takeOne (y : FVec Ideal S512x8x512 .f32) (j : IVec S512x1x1 32) : FVec Ideal S512x1x512 .f32 :=
  select (broadcastInDim S512x1x512 ![0, 1] bcast_S512x1_S512x1x512_0_1 (inOne j))
    (Host.gather gather_S512x8x512_S512x1x1_S512x1x512_2_1_0_0_1_2_11512 y (wrapOne j))
    (broadcastInDim S512x1x512 ![] bcast_S_S512x1x512 (constant S_ .f32 0x7FC00000#32))

/-- A word that names an expert is not wrapped. -/
theorem wrap_word (a : Fin 8) : Scalar.select (IntOp.cmpi .slt (BitVec.ofNat 32 a.val) 0#32) (IntOp.addi (BitVec.ofNat 32 a.val) 8#32) (BitVec.ofNat 32 a.val)
    = BitVec.ofNat 32 a.val := by revert a; decide
/-- A word that names an expert is in range. -/
theorem range_word (a : Fin 8) : IntOp.andi (IntOp.cmpi .sge (BitVec.ofNat 32 a.val) 0#32) (IntOp.cmpi .sle (BitVec.ofNat 32 a.val) 7#32) = 1#1 := by
  revert a; decide
/-- Clamping a word that names an expert does nothing. -/
theorem clamp_word (a : Fin 8) : min (BitVec.ofNat 32 a.val).toInt.toNat 7 = a.val := by revert a; decide

/-- The wrapped word of an expert in range is the expert. -/
theorem wrapTwo_at (idx : IVec S512x2 32) (t : Fin 512) (j : Fin 2) (a : Fin 8) (h : idx (ix2 t j) = BitVec.ofNat 32 a.val) :
    wrapTwo idx (ix3 t j 0) = BitVec.ofNat 32 a.val := by
  pointwise [wrapTwo]
  rw [h]
  exact wrap_word a

/-- The same for one column. -/
theorem wrapOne_at (j : IVec S512x1x1 32) (t : Fin 512) (a : Fin 8) (h : j (ix3 t 0 0) = BitVec.ofNat 32 a.val) :
    wrapOne j (ix3 t 0 0) = BitVec.ofNat 32 a.val := by
  pointwise [wrapOne]
  rw [h]
  exact wrap_word a

/-- An expert in range passes the range test. -/
theorem inTwo_at (idx : IVec S512x2 32) (t : Fin 512) (j : Fin 2) (a : Fin 8) (h : idx (ix2 t j) = BitVec.ofNat 32 a.val) :
    inTwo idx (ix2 t j) = 1#1 := by
  pointwise [inTwo]
  rw [show (Finset.univ : Finset (Fin 1)) = {0} from rfl, Finset.fold_singleton, wrapTwo_at idx t j a h, range_word]
  rfl

/-- The same for one column. -/
theorem inOne_at (j : IVec S512x1x1 32) (t : Fin 512) (a : Fin 8) (h : j (ix3 t 0 0) = BitVec.ofNat 32 a.val) :
    inOne j (ix2 t 0) = 1#1 := by
  pointwise [inOne]
  rw [show (Finset.univ : Finset (Fin 1)) = {0} from rfl, Finset.fold_singleton, wrapOne_at j t a h, range_word]
  rfl

/-- The selected probability is the expert's. -/
theorem takeTwo_at (p : FVec Ideal S512x8 .f32) (idx : IVec S512x2 32) (t : Fin 512) (j : Fin 2) (a : Fin 8) (h : idx (ix2 t j) = BitVec.ofNat 32 a.val) :
    takeTwo p idx (ix2 t j) = p (ix2 t a) := by
  pointwise [takeTwo]
  rw [inTwo_at idx t j a h, gather_prob]
  refine congrArg (fun e => p (ix2 t e)) (Fin.ext ?_)
  show min (wrapTwo idx (ix3 t j 0)).toInt.toNat 7 = a.val
  rw [wrapTwo_at idx t j a h, clamp_word]

/-- The selected row is the expert's. -/
theorem takeOne_at (y : FVec Ideal S512x8x512 .f32) (j : IVec S512x1x1 32) (t : Fin 512) (l : Fin 512) (a : Fin 8) (h : j (ix3 t 0 0) = BitVec.ofNat 32 a.val) :
    takeOne y j (ix3 t 0 l) = y (ix3 t a l) := by
  pointwise [takeOne]
  rw [inOne_at j t a h, gather_row]
  refine congrArg (fun e => y (ix3 t e l)) (Fin.ext ?_)
  show min (wrapOne j (ix3 t 0 0)).toInt.toNat 7 = a.val
  rw [wrapOne_at j t a h, clamp_word]

end Cert.TopTwo.Ref

end
-- ==== Proof.RefValue.lean ====
/-
# The reference's result at an index

The reference's composed term is a softmax over the experts' scores, two selections per token, and the weighted sum
of two rows. `refOut_at` reads it at token `t` and column `l`, for a token routed to experts in range.
-/
module

public import proofs.«01_k».proof.Proof.Gathers
public import proofs.«01_k».proof.Proof.Shares

@[expose] public section

noncomputable section

namespace Cert.TopTwo.Ref

open Cert.ReferenceIdeal Cert.ReferenceIdeal.Gen
open Idealize.ShloMosaic
open Idealize.SL.Sem
open Idealize.ShloMosaic.Pointwise

/-- The experts' scores of each token. -/
def scores (x : FVec Ideal S512x256 .bf16) (rw' : FVec Ideal S256x8 .bf16) : FVec Ideal S512x8 .f32 :=
  Host.dotGeneral dot_S512x256_S256x8_S512x8_1_0_0_1_n_n none (extf .f32 x bitsLt_bf16_f32) (extf .f32 rw' bitsLt_bf16_f32)
/-- The exponentials of the scores, each token's greatest subtracted. -/
def powers (x : FVec Ideal S512x256 .bf16) (rw' : FVec Ideal S256x8 .bf16) : FVec Ideal S512x8 .f32 :=
  Host.exp (subf (scores x rw') (broadcastInDim S512x8 ![0, 1] bcast_S512x1_S512x8_0_1 (broadcastInDim S512x1 ![0] bcast_S512_S512x1_0
    (Host.reduce FloatOps.maximumf (scores x rw') (constant S_ .f32 0xFF800000#32) reducesTo_S512x8_S512_d1 h_S_))))
/-- The softmax of the scores. -/
def probs (x : FVec Ideal S512x256 .bf16) (rw' : FVec Ideal S256x8 .bf16) : FVec Ideal S512x8 .f32 :=
  Host.divf (powers x rw') (broadcastInDim S512x8 ![0, 1] bcast_S512x1_S512x8_0_1 (broadcastInDim S512x1 ![0] bcast_S512_S512x1_0
    (Host.reduceAdd (powers x rw') (constant S_ .f32 0x00000000#32) reducesTo_S512x8_S512_d1 h_S_)))
/-- Every token through every expert. -/
def through (x : FVec Ideal S512x256 .bf16) (ew : FVec Ideal S8x256x512 .f32) : FVec Ideal S512x8x512 .f32 :=
  Host.dotGeneral dot_S512x256_S8x256x512_S512x8x512_1_1_0_02_n_n none (extf .f32 x bitsLt_bf16_f32) ew
/-- The column of each token's first expert. -/
def col0 (idx : IVec S512x2 32) : IVec S512x1x1 32 :=
  broadcastInDim S512x1x1 ![0] bcast_S512_S512x1x1_0 (shapeCast _ (extractStridedSlice S512x1 ![0, 0] idx slices_S512x2_S512x1_0_0) shapeCasts_S512x1_S512)
/-- The column of each token's second expert. -/
def col1 (idx : IVec S512x2 32) : IVec S512x1x1 32 :=
  broadcastInDim S512x1x1 ![0] bcast_S512_S512x1x1_0 (shapeCast _ (extractStridedSlice S512x1 ![0, 1] idx slices_S512x2_S512x1_0_1) shapeCasts_S512x1_S512)
/-- The first of two columns. -/
def fst (g : FVec Ideal S512x2 .f32) : FVec Ideal S512x1 .f32 := extractStridedSlice S512x1 ![0, 0] g slices_S512x2_S512x1_0_0
/-- The second of two columns. -/
def snd (g : FVec Ideal S512x2 .f32) : FVec Ideal S512x1 .f32 := extractStridedSlice S512x1 ![0, 1] g slices_S512x2_S512x1_0_1
/-- One chosen expert's rows, weighted by its share of the two chosen probabilities. -/
def weighted (a g : FVec Ideal S512x1 .f32) (y : FVec Ideal S512x1x512 .f32) : FVec Ideal S512x512 .f32 :=
  mulf (broadcastInDim S512x512 ![0, 1] bcast_S512x1_S512x512_0_1 (Host.divf a g)) (shapeCast _ y shapeCasts_S512x1x512_S512x512)
/-- The reference's result from the chosen probabilities and rows. -/
def combine (g : FVec Ideal S512x2 .f32) (y0 y1 : FVec Ideal S512x1x512 .f32) : FVec Ideal S512x512 .bf16 :=
  truncf .bf16 (addf (weighted (fst g) (addf (fst g) (snd g)) y0) (weighted (snd g) (addf (fst g) (snd g)) y1)) bitsLt_bf16_f32
/-- The reference's result. -/
def refOut (x : FVec Ideal S512x256 .bf16) (rw' : FVec Ideal S256x8 .bf16) (idx : IVec S512x2 32) (ew : FVec Ideal S8x256x512 .f32) : FVec Ideal S512x512 .bf16 :=
  combine (takeTwo (probs x rw') idx) (takeOne (through x ew) (col0 idx)) (takeOne (through x ew) (col1 idx))

set_option maxRecDepth 16384 in
/-- The run's composed term is that result. -/
theorem res_eq (m : (ℓ : Loc nD τ sig) → Buf (Elt Ideal) ℓ) (c : Dev nD) :
    Value.res_main_v34 (F := Ideal) m c = refOut (m ((c.tc : Thread nD τ).loc main_arg0)) (m ((c.tc : Thread nD τ).loc main_arg1))
      (m ((c.tc : Thread nD τ).loc main_arg2)) (m ((c.tc : Thread nD τ).loc main_arg3)) := by
  unfold Value.res_main_v34
  rfl

/-- The first column's word of a token. -/
theorem col0_at (idx : IVec S512x2 32) (t : Fin 512) : col0 idx (ix3 t 0 0) = idx (ix2 t 0) := by
  pointwise [col0]
/-- The second column's word of a token. -/
theorem col1_at (idx : IVec S512x2 32) (t : Fin 512) : col1 idx (ix3 t 0 0) = idx (ix2 t 1) := by
  pointwise [col1]
/-- A token through an expert: the sum over the token's entries. -/
theorem through_at (x : FVec Ideal S512x256 .bf16) (ew : FVec Ideal S8x256x512 .f32) (t : Fin 512) (e : Fin 8) (l : Fin 512) :
    through x ew (ix3 t e l) = ∑ d : Fin 256, (x (ix2 t d) : EReal) * ew (ix3 e d l) := by
  pointwise [through]
/-- The combination at an index. -/
theorem combine_at (g : FVec Ideal S512x2 .f32) (y0 y1 : FVec Ideal S512x1x512 .f32) (t l : Fin 512) :
    combine g y0 y1 (ix2 t l) = Ideal.div (g (ix2 t 0)) (g (ix2 t 0) + g (ix2 t 1)) * y0 (ix3 t 0 l)
      + Ideal.div (g (ix2 t 1)) (g (ix2 t 0) + g (ix2 t 1)) * y1 (ix3 t 0 l) := by
  pointwise [combine, weighted, fst, snd]

/-- The reference's result at token `t` and column `l`: the two experts' outputs, each by its share of their probabilities. -/
theorem refOut_at (x : FVec Ideal S512x256 .bf16) (rw' : FVec Ideal S256x8 .bf16) (idx : IVec S512x2 32) (ew : FVec Ideal S8x256x512 .f32)
    (t l : Fin 512) (a b : Fin 8) (ha : idx (ix2 t 0) = BitVec.ofNat 32 a.val) (hb : idx (ix2 t 1) = BitVec.ofNat 32 b.val) :
    refOut x rw' idx ew (ix2 t l)
      = Ideal.div (probs x rw' (ix2 t a)) (probs x rw' (ix2 t a) + probs x rw' (ix2 t b)) * (∑ d : Fin 256, (x (ix2 t d) : EReal) * ew (ix3 a d l))
        + Ideal.div (probs x rw' (ix2 t b)) (probs x rw' (ix2 t a) + probs x rw' (ix2 t b)) * (∑ d : Fin 256, (x (ix2 t d) : EReal) * ew (ix3 b d l)) := by
  unfold refOut
  rw [combine_at, takeTwo_at _ _ t 0 a ha, takeTwo_at _ _ t 1 b hb, takeOne_at _ _ t l a ((col0_at idx t).trans ha),
    takeOne_at _ _ t l b ((col1_at idx t).trans hb), through_at, through_at]

/-- A router score is a sum over the token's entries; the probabilities are the scores' softmax. -/
theorem probs_at (x : FVec Ideal S512x256 .bf16) (rw' : FVec Ideal S256x8 .bf16) (t : Fin 512) (e : Fin 8) :
    probs x rw' (ix2 t e) = soft (fun j => ∑ d : Fin 256, (x (ix2 t d) : EReal) * rw' (ix2 d j)) e := by
  unfold soft top
  pointwise [probs, powers, scores]

end Cert.TopTwo.Ref

end
-- ==== Proof.Inputs.lean ====
/-
# What the precondition says

Read at each token: its two experts are two different ones of the eight, and the token's values and the router's weights
are reals.
-/
module

public import proofs.«01_k».proof.Proof.Gen.Pre_finite_two_experts_KernelIdeal
public import Idealize.ShloMosaic.Lib.Pointwise

@[expose] public section

noncomputable section

namespace Cert.TopTwo

open Cert.Pre_finite_two_experts_KernelIdeal
open Idealize.ShloMosaic
open Idealize.SL.Sem
open Idealize.ShloMosaic.Pointwise

/-- A conjunction of two truth bits holds when both do. -/
theorem both_hold {a b : BitVec 1} (h : IntOp.andi a b = 1#1) : a = 1#1 ∧ b = 1#1 := by
  revert a b; decide

/-- A conjunction over a finite family holds only when every member does. -/
theorem all_hold {ι : Type} [Fintype ι] (f : ι → BitVec 1) (h : Finset.fold IntOp.andi (1#1) f Finset.univ = 1#1) (i : ι) : f i = 1#1 := by
  classical
  have key : ∀ S : Finset ι, Finset.fold IntOp.andi (1#1) f S = 1#1 → ∀ i ∈ S, f i = 1#1 := by
    intro S
    refine Finset.induction_on (motive := fun S => Finset.fold IntOp.andi (1#1) f S = 1#1 → ∀ i ∈ S, f i = 1#1) S (fun _ i hi => absurd hi (Finset.notMem_empty i)) ?_
    intro a S ha ih h i hi
    rw [Finset.fold_insert ha] at h
    obtain ⟨h1, h2⟩ := both_hold h
    rcases Finset.mem_insert.mp hi with rfl | hi
    · exact h1
    · exact ih h2 i hi
  exact key _ h i (Finset.mem_univ i)

/-- A value below infinity in absolute value is a real. -/
theorem real_of_below (v : EReal) (h : BitVec.ofBool (decide ((FloatOps.absf (F := Ideal) (φ := .bf16) v : EReal) < Ideal.ofBits FTy.bf16 32640#16)) = 1#1) :
    ∃ r : ℝ, v = (r : EReal) := by
  have ht : Ideal.ofBits FTy.bf16 32640#16 = ⊤ := by simp [Ideal.ofBits, Ideal.ieee]
  have hlt : max v (-v) < ⊤ := by
    by_contra hn
    rw [ht] at h
    have : decide ((FloatOps.absf (F := Ideal) (φ := .bf16) v : EReal) < ⊤) = false := decide_eq_false hn
    rw [this] at h
    exact absurd h (by decide)
  obtain ⟨h1, h2⟩ := max_lt_iff.mp hlt
  have hb : v ≠ ⊥ := fun hb => by rw [hb, EReal.neg_bot] at h2; exact lt_irrefl _ h2
  exact ⟨v.toReal, (EReal.coe_toReal h1.ne hb).symm⟩

/-- A word between zero and seven is an expert's. -/
theorem expert_of_range (w : BitVec 32) (h0 : IntOp.cmpi CmpIPredicate.sge w 0#32 = 1#1) (h8 : IntOp.cmpi CmpIPredicate.slt w 8#32 = 1#1) :
    ∃ e : Fin 8, w = BitVec.ofNat 32 e.val := by
  have g0 : (0#32).sle w = true := by
    by_contra hn
    have : IntOp.cmpi CmpIPredicate.sge w 0#32 = BitVec.ofBool ((0#32).sle w) := rfl
    rw [this, Bool.eq_false_iff.mpr hn] at h0
    exact absurd h0 (by decide)
  have g8 : w.slt 8#32 = true := by
    by_contra hn
    have : IntOp.cmpi CmpIPredicate.slt w 8#32 = BitVec.ofBool (w.slt 8#32) := rfl
    rw [this, Bool.eq_false_iff.mpr hn] at h8
    exact absurd h8 (by decide)
  have k0 : 0 ≤ w.toInt := by simpa [BitVec.sle] using g0
  have k8 : w.toInt < 8 := by simpa [BitVec.slt] using g8
  have hn : w.toNat < 8 := by
    rw [BitVec.toInt_eq_toNat_cond] at k0 k8
    have := w.isLt
    split at k8 <;> omega
  exact ⟨⟨w.toNat, hn⟩, by simp⟩

/-- Different words are different experts'. -/
theorem expert_ne (a b : Fin 8) (h : IntOp.cmpi CmpIPredicate.ne (BitVec.ofNat 32 a.val) (BitVec.ofNat 32 b.val) = 1#1) : a ≠ b := by
  revert a b; decide

/-- The precondition at a token. -/
theorem inputs_at (x : FVec Ideal S512x256 .bf16) (rw' : FVec Ideal S256x8 .bf16) (idx : IVec S512x2 32) (ew : FVec Ideal S2x256x512 .f32)
    (h : fn x rw' idx ew = fun _ => 1#1) (t : Fin 512) :
    (∃ a b : Fin 8, idx (ix2 t 0) = BitVec.ofNat 32 a.val ∧ idx (ix2 t 1) = BitVec.ofNat 32 b.val ∧ a ≠ b) ∧
    (∀ d, ∃ r : ℝ, x (ix2 t d) = (r : EReal)) ∧ ∀ d e, ∃ r : ℝ, rw' (ix2 d e) = (r : EReal) := by
  have h1 := congrFun h (ix1 t)
  pointwise [fn, fn_part1] at h1
  obtain ⟨h1, hrw⟩ := both_hold h1
  obtain ⟨h1, hx⟩ := both_hold h1
  obtain ⟨h1, hne⟩ := both_hold h1
  obtain ⟨h1, hb8⟩ := both_hold h1
  obtain ⟨h1, hb0⟩ := both_hold h1
  obtain ⟨ha0, ha8⟩ := both_hold h1
  obtain ⟨a, ha⟩ := expert_of_range _ ha0 ha8
  obtain ⟨b, hb⟩ := expert_of_range _ hb0 hb8
  refine ⟨⟨a, b, ha, hb, expert_ne a b (by rw [← ha, ← hb]; exact hne)⟩, fun d => real_of_below _ (all_hold _ hx d), fun d e => ?_⟩
  exact real_of_below _ (all_hold _ hrw (d, e))

end Cert.TopTwo

end
-- ==== Proof.Equal.lean ====
/-
# The two results are equal

Under the precondition, at token `t` and column `l` the kernel's sum over devices and the reference's two weighted rows
are the same extended real. The algebraic claim follows from the two runs.
-/
module

public import proofs.«01_k».proof.Proof.KernelValue
public import proofs.«01_k».proof.Proof.RefValue
public import proofs.«01_k».proof.Proof.Inputs

@[expose] public section

noncomputable section

namespace Cert.TopTwo

open Cert.KernelIdeal Cert.KernelIdeal.Gen
open Idealize.ShloMosaic
open Idealize.ShloMosaic.TcCoe
open Idealize.SL.Sem

/-- Finite scores: a sum of products of reals is a real. -/
theorem score_real {n : ℕ} (x w : Fin n → EReal) (hx : ∀ d, ∃ r : ℝ, x d = (r : EReal)) (hw : ∀ d, ∃ r : ℝ, w d = (r : EReal)) :
    ∃ r : ℝ, (∑ d, x d * w d) = (r : EReal) := by
  choose f hf using hx
  choose g hg using hw
  exact ⟨∑ d, f d * g d, by rw [← sum_coe]; exact Finset.sum_congr rfl fun d _ => by rw [hf, hg, EReal.coe_mul]⟩

/-- For a token with finite entries and finite router weights every probability is a positive real. -/
theorem probs_pos (x : FVec Ideal S512x256 .bf16) (rw' : FVec Ideal S256x8 .bf16) (t : Fin 512)
    (hx : ∀ d, ∃ r : ℝ, (x (ix2 t d) : EReal) = (r : EReal)) (hrw : ∀ d e, ∃ r : ℝ, (rw' (ix2 d e) : EReal) = (r : EReal)) (e : Fin 8) :
    ∃ q : ℝ, 0 < q ∧ Ref.probs x rw' (ix2 t e) = (q : EReal) := by
  have h : ∀ j : Fin 8, ∃ r : ℝ, (∑ d : Fin 256, (x (ix2 t d) : EReal) * rw' (ix2 d j)) = (r : EReal) := fun j =>
    score_real (fun d => x (ix2 t d)) (fun d => rw' (ix2 d j)) hx fun d => hrw d j
  choose f hf using h
  rw [Ref.probs_at, funext hf]
  exact soft_pos f e

/-- A row and a column of the array, as a chunk and a place in it. -/
theorem outAt_at (m : (ℓ : Loc nD τ sig) → Buf (Elt Ideal) ℓ) (c : Dev nD) (k : Fin 8) (r : Fin 64) (l : Fin 512) :
    outAt m c (ix2 (rowOf k r) l) = final m c k (ix2 r l) := by
  have hk : chunkOf (ix2 (rowOf k r) l) = k := Fin.ext (by show (64 * k.val + r.val) / 64 = k.val; omega)
  have hi : inChunk (ix2 (rowOf k r) l) = ix2 r l := funext fun a => by
    fin_cases a
    · exact Fin.ext (by show (64 * k.val + r.val) % 64 = r.val; omega)
    · rfl
  unfold outAt
  rw [hk, hi]

/-- Every row is a row of a chunk. -/
theorem row_split (t : Fin 512) : ∃ (k : Fin 8) (r : Fin 64), t = rowOf k r :=
  ⟨⟨t.val / 64, by omega⟩, ⟨t.val % 64, by omega⟩, Fin.ext (by show t.val = 64 * (t.val / 64) + t.val % 64; omega)⟩

section
variable (m : (ℓ : Loc nD τ sig) → Buf (Elt Ideal) ℓ)
variable (x : FVec Ideal S512x256 .bf16) (rw' : FVec Ideal S256x8 .bf16) (idx : IVec S512x2 32) (ew : FVec Ideal ⟨3, ![8, 256, 512]⟩ .f32)

/-- The memory's arrays are parts of the whole ones: copies of three, and two experts' weights of the eight. -/
structure Parts : Prop where
  hx : ∀ c : Dev nD, xA m c = x
  hrw : ∀ c : Dev nD, rwA m c = rw'
  hidx : ∀ c : Dev nD, idxA m c = idx
  hew : ∀ c : Dev nD, ewA m c = Layout.block ⟨3, ![2, 256, 512]⟩ ⟨3, ![8, 256, 512]⟩ 0 4 c ew

variable {m x rw' idx ew}

/-- A device's probabilities are the reference's. -/
theorem prob_eq (h : Parts m x rw' idx ew) (c : Dev nD) (t : Fin 512) (e : Fin 8) : prob m c t e = Ref.probs x rw' (ix2 t e) := by
  rw [Ref.probs_at]
  unfold prob
  rw [h.hx c, h.hrw c]

/-- Local expert `j` of device `c` is expert `2 * c + j`. -/
theorem ew_at (h : Parts m x rw' idx ew) (c : Dev nD) (j : Fin 2) (d : Fin 256) (l : Fin 512) :
    ewA m c (ix3 j d l) = ew (ix3 (⟨2 * c.val + j.val, by have := c.isLt; have : nD = 4 := rfl; omega⟩ : Fin 8) d l) := by
  rw [h.hew c, Layout.block_apply]
  refine congrArg ew (funext fun a => Fin.ext ?_)
  rw [Layout.Tiles.idx_val]
  fin_cases a
  · show c.val * 2 + j.val = 2 * c.val + j.val
    omega
  · rfl
  · rfl

/-- What expert `e` adds to token `t` at column `l`: its share times what it makes of the token. -/
def part (x : FVec Ideal S512x256 .bf16) (rw' : FVec Ideal S256x8 .bf16) (ew : FVec Ideal ⟨3, ![8, 256, 512]⟩ .f32) (t l : Fin 512) (a b e : Fin 8) : EReal :=
  Ideal.div (Ref.probs x rw' (ix2 t e)) (Ref.probs x rw' (ix2 t a) + Ref.probs x rw' (ix2 t b)) * ∑ d : Fin 256, (x (ix2 t d) : EReal) * ew (ix3 e d l)

/-- A device's own chunk is the sum over its two experts of those chosen. -/
theorem own_parts (h : Parts m x rw' idx ew) (c : Dev nD) (k : Fin 8) (r : Fin 64) (l : Fin 512) (a b : Fin 8)
    (ha : idx (ix2 (rowOf k r) 0) = BitVec.ofNat 32 a.val) (hb : idx (ix2 (rowOf k r) 1) = BitVec.ofNat 32 b.val)
    (hx : ∀ d, ∃ q : ℝ, (x (ix2 (rowOf k r) d) : EReal) = (q : EReal)) (hrw : ∀ d e, ∃ q : ℝ, (rw' (ix2 d e) : EReal) = (q : EReal))
    (e0 e1 : Fin 8) (h0 : e0.val = 2 * c.val) (h1 : e1.val = 2 * c.val + 1) :
    (own m c k (ix2 r l) : EReal) = (if e0 = a ∨ e0 = b then part x rw' ew (rowOf k r) l a b e0 else 0) + (if e1 = a ∨ e1 = b then part x rw' ew (rowOf k r) l a b e1 else 0) := by
  have hp : ∀ e, ∃ q : ℝ, 0 < q ∧ Ref.probs x rw' (ix2 (rowOf k r) e) = (q : EReal) := probs_pos x rw' _ hx hrw
  have w0 : ∀ d, ewA m c (ix3 0 d l) = ew (ix3 e0 d l) := fun d => (ew_at h c 0 d l).trans (congrArg (fun e => ew (ix3 e d l)) (Fin.ext h0.symm))
  have w1 : ∀ d, ewA m c (ix3 1 d l) = ew (ix3 e1 d l) := fun d => (ew_at h c 1 d l).trans (congrArg (fun e => ew (ix3 e d l)) (Fin.ext h1.symm))
  rw [own_at m c k r l a b (by rw [h.hidx c]; exact ha) (by rw [h.hidx c]; exact hb) e0 e1 h0 h1, h.hx c,
    show prob m c (rowOf k r) = fun e => Ref.probs x rw' (ix2 (rowOf k r) e) from funext (prob_eq h c (rowOf k r))]
  simp only [w0, w1]
  exact congrArg₂ (· + ·)
    (gated_sum (fun e => Ref.probs x rw' (ix2 (rowOf k r) e)) hp a b e0 (fun d => x (ix2 (rowOf k r) d)) (fun d => ew (ix3 e0 d l)))
    (gated_sum (fun e => Ref.probs x rw' (ix2 (rowOf k r) e)) hp a b e1 (fun d => x (ix2 (rowOf k r) d)) (fun d => ew (ix3 e1 d l)))

/-- The kernel's result is the reference's, on every device. -/
theorem out_eq (h : Parts m x rw' idx ew) (c : Dev nD)
    (hin : ∀ t : Fin 512, (∃ a b : Fin 8, idx (ix2 t 0) = BitVec.ofNat 32 a.val ∧ idx (ix2 t 1) = BitVec.ofNat 32 b.val ∧ a ≠ b) ∧
      (∀ d, ∃ r : ℝ, (x (ix2 t d) : EReal) = (r : EReal)) ∧ ∀ d e, ∃ r : ℝ, (rw' (ix2 d e) : EReal) = (r : EReal)) :
    outAt m c = Ref.refOut x rw' idx ew := by
  refine funext fun i => ?_
  obtain ⟨t, l, rfl⟩ : ∃ t l : Fin 512, i = ix2 t l := ⟨i 0, i 1, eq_ix2 i⟩
  obtain ⟨k, r, rfl⟩ := row_split t
  obtain ⟨⟨a, b, ha, hb, hab⟩, hx, hrw⟩ := hin (rowOf k r)
  rw [outAt_at, final_at, Ref.refOut_at x rw' idx ew _ l a b ha hb]
  have e : ∀ d : Dev nD, (own m d k (ix2 r l) : EReal)
      = (fun e : Fin 8 => if e = a ∨ e = b then part x rw' ew (rowOf k r) l a b e else 0) ⟨2 * d.val, by have : d.val < 4 := d.isLt; omega⟩
        + (fun e : Fin 8 => if e = a ∨ e = b then part x rw' ew (rowOf k r) l a b e else 0) ⟨2 * d.val + 1, by have : d.val < 4 := d.isLt; omega⟩ := fun d =>
    own_parts h d k r l a b ha hb hx hrw _ _ rfl rfl
  rw [Finset.sum_congr rfl fun d _ => e d]
  exact (pairs _).trans (two_of_eight a b hab (part x rw' ew (rowOf k r) l a b))

end

/-- The algebraic claim: on inputs that meet the precondition the kernel's result on every device is the reference's. -/
theorem algebraic : Cert.algebraic_KernelIdeal_ReferenceIdeal_pre_finite_two_experts_KernelIdeal (hKernelIdeal := Cert.KernelIdeal.Gen.facts)
    (hReferenceIdeal := Cert.ReferenceIdeal.Gen.facts) (hPre_finite_two_experts_KernelIdeal := Cert.Pre_finite_two_experts_KernelIdeal.Gen.facts) := by
  intro m g m' g' hpre heq
  have parts : Parts m (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3)) :=
    ⟨fun c => (heq c).1, fun c => (heq c).2.1, fun c => (heq c).2.2.1, fun c => (heq c).2.2.2⟩
  have hin := fun t => inputs_at _ _ _ _ (hpre 0) t
  have out : ∀ c : Dev nD, outAt m c = Cert.ReferenceIdeal.Value.res_main_v34 (F := Ideal) m' 0 := fun c => by
    rw [Ref.res_eq]
    refine out_eq parts c fun t => ?_
    have h := hin t
    rw [(heq 0).1, (heq 0).2.1, (heq 0).2.2.1] at h
    exact h
  refine ⟨Cert.ReferenceIdeal.Value.res_main_v34 (F := Ideal) m' 0, ?_, ?_⟩
  · exact (θ_run Cert.KernelIdeal.defs _ _).mono (fun r h c => ⟨((h.1 c).1).trans (out c), (h.1 c).2⟩) (run_end m g)
  · exact (θ_run Cert.ReferenceIdeal.defs _ _).mono (fun r h => h 0) (Cert.ReferenceIdeal.Value.run (F := Ideal) m' g')

end Cert.TopTwo

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Ends
public import proofs.«01_k».proof.Proof.Equal
public import proofs.«01_k».proof.Proof.Gen.Pre_finite_two_experts_KernelIdeal
public import proofs.«01_k».proof.Proof.Gen.Pre_finite_two_experts_ReferenceIdeal
public import Idealize.ShloMosaic.Adequacy
public import Idealize.ShloMosaic.Init

@[expose] public section

noncomputable section

namespace Cert.Proof

open Idealize.ShloMosaic Idealize.SL.Sem Cert.Kernel

/-- Everything the certificate claims. -/
theorem claim : Cert.Claim :=
  ⟨Cert.Kernel.Gen.facts, Cert.KernelIdeal.Gen.facts, Cert.ReferenceIdeal.Gen.facts,
    Cert.Pre_finite_two_experts_KernelIdeal.Gen.facts, Cert.Pre_finite_two_experts_ReferenceIdeal.Gen.facts,
    TopTwo.frame_kernel, TopTwo.frame_ideal, TopTwo.frame_ideal_pre, TopTwo.frame_reference, TopTwo.frame_reference_pre,
    trivial, TopTwo.algebraic⟩

end Cert.Proof

end
